-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S64x64x21 : Shape := ⟨3, ![64, 64, 21]⟩
abbrev S96x256 : Shape := ⟨2, ![96, 256]⟩
abbrev S256x256x5 : Shape := ⟨3, ![256, 256, 5]⟩
abbrev S256 : Shape := ⟨1, ![256]⟩
abbrev S256x256 : Shape := ⟨2, ![256, 256]⟩
abbrev S_ : Shape := ⟨0, ![]⟩

class Facts : Prop where
  bcast_S_S64x64x21 : S_.BroadcastsInDim S64x64x21 (![] : Fin 0 → Fin S64x64x21.rank)

variable [Facts]

def fn {F : FTy → Type} [FloatOps F] (main_arg0 : IVec S64x64x21 32) (main_arg1 : FVec F S96x256 .f32) (main_arg2 : FVec F S256x256x5 .f32) (main_arg3 : FVec F S256 .f32) (main_arg4 : FVec F S256x256 .f32) (main_arg5 : FVec F S256 .f32) (main_arg6 : FVec F S256x256 .f32) (main_arg7 : FVec F S256 .f32) : IVec S64x64x21 1 :=
  let main_c : IVec S_ 32 := constantI S_ 32 0#32
  let main_v0 : IVec S64x64x21 32 := broadcastInDim S64x64x21 ![] bcast_S_S64x64x21 main_c
  let main_v1 : IVec S64x64x21 1 := cmpi .sge main_arg0 main_v0
  let main_c_0 : IVec S_ 32 := constantI S_ 32 96#32
  let main_v2 : IVec S64x64x21 32 := broadcastInDim S64x64x21 ![] bcast_S_S64x64x21 main_c_0
  let main_v3 : IVec S64x64x21 1 := cmpi .slt main_arg0 main_v2
  let main_v4 : IVec S64x64x21 1 := andi main_v1 main_v3
  main_v4
-- ==== Kernel.lean ====
abbrev S64x64x21 : Shape := ⟨3, ![64, 64, 21]⟩
abbrev S96x256 : Shape := ⟨2, ![96, 256]⟩
abbrev S256x256x5 : Shape := ⟨3, ![256, 256, 5]⟩
abbrev S256 : Shape := ⟨1, ![256]⟩
abbrev S256x256 : Shape := ⟨2, ![256, 256]⟩
abbrev S4x1024x21 : Shape := ⟨3, ![4, 1024, 21]⟩
abbrev S4x21x1024 : Shape := ⟨3, ![4, 21, 1024]⟩
abbrev S4x21x1024x1 : Shape := ⟨4, ![4, 21, 1024, 1]⟩
abbrev S_ : Shape := ⟨0, ![]⟩
abbrev S256x256x21 : Shape := ⟨3, ![256, 256, 21]⟩
abbrev S256x21x256 : Shape := ⟨3, ![256, 21, 256]⟩
abbrev S5376x256 : Shape := ⟨2, ![5376, 256]⟩
abbrev S5392x256 : Shape := ⟨2, ![5392, 256]⟩
abbrev S1x256 : Shape := ⟨2, ![1, 256]⟩
abbrev S4096x256 : Shape := ⟨2, ![4096, 256]⟩
abbrev S1x21x1024x1 : Shape := ⟨4, ![1, 21, 1024, 1]⟩
abbrev S1024x256 : Shape := ⟨2, ![1024, 256]⟩
abbrev S1024x2688 : Shape := ⟨2, ![1024, 2688]⟩
abbrev S17x2688x256 : Shape := ⟨3, ![17, 2688, 256]⟩
abbrev S1x96x256 : Shape := ⟨3, ![1, 96, 256]⟩
abbrev S1024x128 : Shape := ⟨2, ![1024, 128]⟩
abbrev S1x1x1024x1 : Shape := ⟨4, ![1, 1, 1024, 1]⟩
abbrev S1024x1 : Shape := ⟨2, ![1024, 1]⟩
abbrev S1x2688x256 : Shape := ⟨3, ![1, 2688, 256]⟩
abbrev S2688x256 : Shape := ⟨2, ![2688, 256]⟩

abbrev nBuf : Space → Nat
  | .hbm => 28
  | .vmem => 13
  | .smem => 0
  | _ => 0

abbrev bufTy : (tb : Table) → Fin (tcTables nBuf tb) → BufTy
  | .hbm, ⟨0, _⟩ => ⟨S64x64x21, .i32⟩
  | .hbm, ⟨1, _⟩ => ⟨S96x256, .f32⟩
  | .hbm, ⟨2, _⟩ => ⟨S256x256x5, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S64x64x21, .i8⟩
  | .hbm, ⟨9, _⟩ => ⟨S4x1024x21, .i8⟩
  | .hbm, ⟨10, _⟩ => ⟨S4x21x1024, .i8⟩
  | .hbm, ⟨11, _⟩ => ⟨S4x21x1024x1, .i8⟩
  | .hbm, ⟨12, _⟩ => ⟨S96x256, .bf16⟩
  | .hbm, ⟨13, _⟩ => ⟨S_, .i32⟩
  | .hbm, ⟨14, _⟩ => ⟨S_, .f32⟩
  | .hbm, ⟨15, _⟩ => ⟨S256x256x21, .f32⟩
  | .hbm, ⟨16, _⟩ => ⟨S256x21x256, .f32⟩
  | .hbm, ⟨17, _⟩ => ⟨S5376x256, .f32⟩
  | .hbm, ⟨18, _⟩ => ⟨S_, .i32⟩
  | .hbm, ⟨19, _⟩ => ⟨S_, .f32⟩
  | .hbm, ⟨20, _⟩ => ⟨S5392x256, .f32⟩
  | .hbm, ⟨21, _⟩ => ⟨S5392x256, .bf16⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S256x256, .f32⟩
  | .hbm, ⟨26, _⟩ => ⟨S256x256, .f32⟩
  | .hbm, ⟨27, _⟩ => ⟨S4096x256, .f32⟩
  | .local _ .vmem, ⟨0, _⟩ => ⟨S1x21x1024x1, .i8⟩
  | .local _ .vmem, ⟨1, _⟩ => ⟨S1x21x1024x1, .i8⟩
  | .local _ .vmem, ⟨2, _⟩ => ⟨S96x256, .bf16⟩
  | .local _ .vmem, ⟨3, _⟩ => ⟨S5392x256, .bf16⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S1024x256, .f32⟩
  | .local _ .vmem, ⟨10, _⟩ => ⟨S1024x256, .f32⟩
  | .local _ .vmem, ⟨11, _⟩ => ⟨S1024x2688, .bf16⟩
  | .local _ .vmem, ⟨12, _⟩ => ⟨S17x2688x256, .bf16⟩
  | _, _ => ⟨S64x64x21, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x21x1024x1 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S96x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S5392x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S64x64x21 : Shape := ⟨3, ![64, 64, 21]⟩
abbrev S96x256 : Shape := ⟨2, ![96, 256]⟩
abbrev S256x256x5 : Shape := ⟨3, ![256, 256, 5]⟩
abbrev S256 : Shape := ⟨1, ![256]⟩
abbrev S256x256 : Shape := ⟨2, ![256, 256]⟩
abbrev S_ : Shape := ⟨0, ![]⟩
abbrev S64x64x21x1 : Shape := ⟨4, ![64, 64, 21, 1]⟩
abbrev S1 : Shape := ⟨1, ![1]⟩
abbrev S1x1x1x1 : Shape := ⟨4, ![1, 1, 1, 1]⟩
abbrev S64x64x21x256 : Shape := ⟨4, ![64, 64, 21, 256]⟩
abbrev S4096x256x21 : Shape := ⟨3, ![4096, 256, 21]⟩
abbrev S4096x17x256 : Shape := ⟨3, ![4096, 17, 256]⟩
abbrev S4096x256x17 : Shape := ⟨3, ![4096, 256, 17]⟩
abbrev S256x256x1 : Shape := ⟨3, ![256, 256, 1]⟩
abbrev S1x1x256 : Shape := ⟨3, ![1, 1, 256]⟩
abbrev S4096x256 : Shape := ⟨2, ![4096, 256]⟩
abbrev S1x256 : Shape := ⟨2, ![1, 256]⟩

abbrev nBuf : Space → Nat
  | .hbm => 94
  | .vmem => 0
  | .smem => 0
  | _ => 0

abbrev bufTy : (tb : Table) → Fin (tcTables nBuf tb) → BufTy
  | .hbm, ⟨0, _⟩ => ⟨S64x64x21, .i32⟩
  | .hbm, ⟨1, _⟩ => ⟨S96x256, .f32⟩
  | .hbm, ⟨2, _⟩ => ⟨S256x256x5, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .i32⟩
  | .hbm, ⟨9, _⟩ => ⟨S64x64x21, .i32⟩
  | .hbm, ⟨10, _⟩ => ⟨S64x64x21, .i1⟩
  | .hbm, ⟨11, _⟩ => ⟨S_, .i32⟩
  | .hbm, ⟨12, _⟩ => ⟨S64x64x21, .i32⟩
  | .hbm, ⟨13, _⟩ => ⟨S64x64x21, .i32⟩
  | .hbm, ⟨14, _⟩ => ⟨S64x64x21, .i32⟩
  | .hbm, ⟨15, _⟩ => ⟨S64x64x21x1, .i32⟩
  | .hbm, ⟨16, _⟩ => ⟨S1, .i32⟩
  | .hbm, ⟨17, _⟩ => ⟨S_, .i32⟩
  | .hbm, ⟨18, _⟩ => ⟨S64x64x21x1, .i32⟩
  | .hbm, ⟨19, _⟩ => ⟨S64x64x21x1, .i1⟩
  | .hbm, ⟨20, _⟩ => ⟨S1x1x1x1, .i32⟩
  | .hbm, ⟨21, _⟩ => ⟨S64x64x21x1, .i32⟩
  | .hbm, ⟨22, _⟩ => ⟨S64x64x21x1, .i1⟩
  | .hbm, ⟨23, _⟩ => ⟨S64x64x21x1, .i1⟩
  | .hbm, ⟨24, _⟩ => ⟨S_, .i1⟩
  | .hbm, ⟨25, _⟩ => ⟨S64x64x21, .i1⟩
  | .hbm, ⟨26, _⟩ => ⟨S64x64x21x256, .f32⟩
  | .hbm, ⟨27, _⟩ => ⟨S64x64x21x256, .i1⟩
  | .hbm, ⟨28, _⟩ => ⟨S_, .f32⟩
  | .hbm, ⟨29, _⟩ => ⟨S64x64x21x256, .f32⟩
  | .hbm, ⟨30, _⟩ => ⟨S64x64x21x256, .f32⟩
  | .hbm, ⟨31, _⟩ => ⟨S4096x256x21, .f32⟩
  | .hbm, ⟨32, _⟩ => ⟨S_, .f32⟩
  | .hbm, ⟨33, _⟩ => ⟨S4096x17x256, .f32⟩
  | .hbm, ⟨34, _⟩ => ⟨S4096x256x17, .f32⟩
  | .hbm, ⟨35, _⟩ => ⟨S256x256x1, .f32⟩
  | .hbm, ⟨36, _⟩ => ⟨S256x256, .f32⟩
  | .hbm, ⟨37, _⟩ => ⟨S4096x17x256, .f32⟩
  | .hbm, ⟨38, _⟩ => ⟨S4096x17x256, .f32⟩
  | .hbm, ⟨39, _⟩ => ⟨S4096x256x17, .f32⟩
  | .hbm, ⟨40, _⟩ => ⟨S256x256x1, .f32⟩
  | .hbm, ⟨41, _⟩ => ⟨S256x256, .f32⟩
  | .hbm, ⟨42, _⟩ => ⟨S4096x17x256, .f32⟩
  | .hbm, ⟨43, _⟩ => ⟨S4096x17x256, .f32⟩
  | .hbm, ⟨44, _⟩ => ⟨S4096x256x17, .f32⟩
  | .hbm, ⟨45, _⟩ => ⟨S256x256x1, .f32⟩
  | .hbm, ⟨46, _⟩ => ⟨S256x256, .f32⟩
  | .hbm, ⟨47, _⟩ => ⟨S4096x17x256, .f32⟩
  | .hbm, ⟨48, _⟩ => ⟨S4096x17x256, .f32⟩
  | .hbm, ⟨49, _⟩ => ⟨S4096x256x17, .f32⟩
  | .hbm, ⟨50, _⟩ => ⟨S256x256x1, .f32⟩
  | .hbm, ⟨51, _⟩ => ⟨S256x256, .f32⟩
  | .hbm, ⟨52, _⟩ => ⟨S4096x17x256, .f32⟩
  | .hbm, ⟨53, _⟩ => ⟨S4096x17x256, .f32⟩
  | .hbm, ⟨54, _⟩ => ⟨S4096x256x17, .f32⟩
  | .hbm, ⟨55, _⟩ => ⟨S256x256x1, .f32⟩
  | .hbm, ⟨56, _⟩ => ⟨S256x256, .f32⟩
  | .hbm, ⟨57, _⟩ => ⟨S4096x17x256, .f32⟩
  | .hbm, ⟨58, _⟩ => ⟨S4096x17x256, .f32⟩
  | .hbm, ⟨59, _⟩ => ⟨S1x1x256, .f32⟩
  | .hbm, ⟨60, _⟩ => ⟨S4096x17x256, .f32⟩
  | .hbm, ⟨61, _⟩ => ⟨S4096x17x256, .f32⟩
  | .hbm, ⟨62, _⟩ => ⟨S_, .f32⟩
  | .hbm, ⟨63, _⟩ => ⟨S4096x17x256, .f32⟩
  | .hbm, ⟨64, _⟩ => ⟨S4096x17x256, .f32⟩
  | .hbm, ⟨65, _⟩ => ⟨S_, .f32⟩
  | .hbm, ⟨66, _⟩ => ⟨S4096x256, .f32⟩
  | .hbm, ⟨67, _⟩ => ⟨S256x256, .f32⟩
  | .hbm, ⟨68, _⟩ => ⟨S4096x256, .f32⟩
  | .hbm, ⟨69, _⟩ => ⟨S1x256, .f32⟩
  | .hbm, ⟨70, _⟩ => ⟨S4096x256, .f32⟩
  | .hbm, ⟨71, _⟩ => ⟨S4096x256, .f32⟩
  | .hbm, ⟨72, _⟩ => ⟨S_, .f32⟩
  | .hbm, ⟨73, _⟩ => ⟨S4096x256, .f32⟩
  | .hbm, ⟨74, _⟩ => ⟨S4096x256, .f32⟩
  | .hbm, ⟨75, _⟩ => ⟨S256x256, .f32⟩
  | .hbm, ⟨76, _⟩ => ⟨S4096x256, .f32⟩
  | .hbm, ⟨77, _⟩ => ⟨S1x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S_, .f32⟩
  | .hbm, ⟨83, _⟩ => ⟨S4096x256, .f32⟩
  | .hbm, ⟨84, _⟩ => ⟨S4096x256, .f32⟩
  | .hbm, ⟨85, _⟩ => ⟨S_, .f32⟩
  | .hbm, ⟨86, _⟩ => ⟨S4096x256, .f32⟩
  | .hbm, ⟨87, _⟩ => ⟨S4096x256, .f32⟩
  | .hbm, ⟨88, _⟩ => ⟨S4096x256, .f32⟩
  | .hbm, ⟨89, _⟩ => ⟨S_, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x256, .f32⟩
  | _, _ => ⟨S64x64x21, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_call1_cst : Ref sig .tc := ⟨.hbm, 62, rfl⟩
abbrev main_call1_v0 : Ref sig .tc := ⟨.hbm, 63, rfl⟩
abbrev main_v31 : Ref sig .tc := ⟨.hbm, 64, rfl⟩
abbrev main_cst_0 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_call2_cst : Ref sig .tc := ⟨.hbm, 72, rfl⟩
abbrev main_call2_v0 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_1 : Ref sig .tc := ⟨.hbm, 82, rfl⟩
abbrev main_v46 : Ref sig .tc := ⟨.hbm, 83, rfl⟩
abbrev main_v47 : Ref sig .tc := ⟨.hbm, 84, rfl⟩
abbrev main_cst_2 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_3 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩

abbrev nD : Nat := 1
abbrev τ : Topo := Topo.v7x

variable {F : FTy → Type} [FloatOps F]
-- ==== Proof.Pieces.lean ====
module

public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-! ## Lists of stores, the last one first -/

/-- The values of `f` at `n - 1`, …, `1`, `0`, in this order. -/
def down {α : Type} (N : ℕ) (f : (k : ℕ) → k < N → α) : (n : ℕ) → n ≤ N → List α
  | 0, _ => []
  | n + 1, h => f n h :: down N f n (Nat.le_of_succ_le h)

/-- What the list `down` holds: the values of `f` below `n`. -/
theorem mem_down {α : Type} {N : ℕ} {f : (k : ℕ) → k < N → α} {a : α} :
    ∀ {n : ℕ} {h : n ≤ N}, a ∈ down N f n h ↔ ∃ (k : ℕ) (hk : k < n), a = f k (Nat.lt_of_lt_of_le hk h)
  | 0, _ => by simp [down]
  | n + 1, h => by
    rw [down, List.mem_cons, mem_down]
    constructor
    · rintro (rfl | ⟨k, hk, rfl⟩)
      · exact ⟨n, Nat.lt_succ_self n, rfl⟩
      · exact ⟨k, Nat.lt_succ_of_lt hk, rfl⟩
    · rintro ⟨k, hk, rfl⟩
      rcases Nat.lt_succ_iff_lt_or_eq.mp hk with h' | rfl
      · exact Or.inr ⟨k, h', rfl⟩
      · exact Or.inl rfl

/-- The lists `g (n - 1)`, …, `g 0` one after the other, before the list `z`. -/
def downApp {α : Type} (N : ℕ) (g : (k : ℕ) → k < N → List α → List α) (z : List α) : (n : ℕ) → n ≤ N → List α
  | 0, _ => z
  | n + 1, h => g n h (downApp N g z n (Nat.le_of_succ_le h))

/-- The values of `f` at `n - 1`, …, `0`, before the list `z`. -/
def downOn {α : Type} (N : ℕ) (f : (k : ℕ) → k < N → α) (z : List α) : (n : ℕ) → n ≤ N → List α
  | 0, _ => z
  | n + 1, h => f n h :: downOn N f z n (Nat.le_of_succ_le h)

/-- The list before `z` is the list alone, with `z` appended. -/
theorem downOn_eq {α : Type} (N : ℕ) (f : (k : ℕ) → k < N → α) (z : List α) :
    ∀ (n : ℕ) (h : n ≤ N), downOn N f z n h = down N f n h ++ z
  | 0, _ => rfl
  | n + 1, h => by rw [downOn, down, downOn_eq, List.cons_append]

/-! ## The stores of the tables `U` and of the one-hot rows -/

/-- One block of `U` as the body computes it: the table times 256 rows of the padded weights, under a leading unit axis. -/
def uPay (x1 : Vec F S96x256 .bf16) (w : Vec F S256x256 .bf16) : FVec F S1x96x256 .bf16 :=
  shapeCast S1x96x256 (truncf .bf16 (matmul dot_S96x256_S256x256_S96x256_1_0_0_1_n_n none
    (shapeCast S96x256 x1 shapeCasts_S96x256_S96x256) (shapeCast S256x256 w shapeCasts_S256x256_S256x256)
    (constant S96x256 .f32 0x00000000#32)) bitsLt_bf16_f32) shapeCasts_S96x256_S1x96x256

/-- One 128-column block of the one-hot rows as the body computes it: the ids of one position compared with the column number. -/
def ohPay (v : Vec F S1x1x1024x1 .i8) : FVec F S1024x128 .bf16 :=
  shapeCast S1024x128 (truncf .bf16 (sitofp .f32 (extui 32 (cmpi .eq
    (broadcastTo S1024x128 (extsi 32 (shapeCast S1024x1 v shapeCasts_S1x1x1024x1_S1024x1) natLt_8_32) broadcasts_S1024x1_S1024x128)
    (iota .tc S1024x128 32 [1] iota_S1024x128_d1_w32)) natLt_1_32)) bitsLt_bf16_f32) shapeCasts_S1024x128_S1024x128

/-- The block of `U` at offset `t`, position `p` lies in `U`. -/
theorem u_inb (t p : ℕ) (ht : t < 17) (hp : p < 21) : ∀ a, (![t, p * 128, 0] : Fin 3 → ℕ) a + (![1, 96, 256] : Fin 3 → ℕ) a ≤ S17x2688x256.size a := by
  intro a; fin_cases a <;> simp <;> omega

/-- The 256 weight rows of that block lie in the padded weights. -/
theorem w_inb (t p : ℕ) (ht : t < 17) (hp : p < 21) : ∀ a, (![p * 256 + 16 - t, 0] : Fin 2 → ℕ) a + (![256, 256] : Fin 2 → ℕ) a ≤ S5392x256.size a := by
  intro a; fin_cases a <;> simp <;> omega

/-- The columns of position `p` lie in the one-hot array. -/
theorem oh_inb (p : ℕ) (hp : p < 21) : ∀ a, (![0, p * 128] : Fin 2 → ℕ) a + (![1024, 128] : Fin 2 → ℕ) a ≤ S1024x2688.size a := by
  intro a; fin_cases a <;> simp <;> omega

/-- The ids of position `p` lie in the block of ids. -/
theorem ids_inb (p : ℕ) (hp : p < 21) : ∀ a, (![0, p, 0, 0] : Fin 4 → ℕ) a + S1x1x1024x1.size a ≤ S1x21x1024x1.size a := by
  intro a; fin_cases a <;> simp <;> omega

/-- The whole table as a rectangle of itself. -/
theorem tab_inb : ∀ a, (![0, 0] : Fin 2 → ℕ) a + S96x256.size a ≤ S96x256.size a := by
  intro a; fin_cases a <;> simp

/-- The whole of `U` as a rectangle of itself. -/
theorem u0_inb : ∀ a, (![0, 0, 0] : Fin 3 → ℕ) a + S17x2688x256.size a ≤ S17x2688x256.size a := by
  intro a; fin_cases a <;> simp

/-- The store of `U`'s block at offset `t`, position `p`, as the run names it. -/
def uPiece (arg3 : Memref sig .tc .vmem S96x256 .bf16) (harg3 : arg3.IsWhole) (arg4 : Memref sig .tc .vmem S5392x256 .bf16) (harg4 : arg4.IsWhole)
    (x1 : Vec F S96x256 .bf16) (x2 : Vec F S5392x256 .bf16) (t : ℕ) (ht : t < 17) (p : ℕ) (hp : p < 21) : View.Piece (Elt F) S17x2688x256 .bf16 :=
  ⟨Rect.unit ![t, p * 128, 0] ![1, 96, 256] (u_inb t p ht hp),
    uPay (View.readAt (Elt F) arg3.view (Rect.unit (s := S96x256) ![0, 0] S96x256.size tab_inb).toLoadRect (harg3.unread x1))
      (View.readAt (Elt F) arg4.view (Rect.unit (s := S5392x256) ![p * 256 + 16 - t, 0] ![256, 256] (w_inb t p ht hp)).toLoadRect (harg4.unread x2))⟩

/-- The store of the one-hot columns of position `p`, as the run names it. -/
def ohPiece (arg2 : Memref sig .tc .vmem S1x21x1024x1 .i8) (harg2 : arg2.IsWhole) (x0 : Vec F S1x21x1024x1 .i8) (p : ℕ) (hp : p < 21) :
    View.Piece (Elt F) S1024x2688 .bf16 :=
  ⟨Rect.unit ![0, p * 128] ![1024, 128] (oh_inb p hp),
    ohPay (View.readAt (Elt F) arg2.view (Rect.unit (s := S1x21x1024x1) ![0, p, 0, 0] S1x1x1024x1.size (ids_inb p hp)).toLoadRect (harg2.unread x0))⟩

section
variable (c : Dev nD) (i : grid0.Coords) (arg2 : Memref sig .tc .vmem S1x21x1024x1 .i8) (harg2 : arg2.IsWhole) (arg3 : Memref sig .tc .vmem S96x256 .bf16) (harg3 : arg3.IsWhole) (arg4 : Memref sig .tc .vmem S5392x256 .bf16) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x2688 .bf16) (harg11 : arg11.IsWhole) (arg12 : Memref sig .tc .vmem S17x2688x256 .bf16) (harg12 : arg12.IsWhole)
  (x0 : Vec F S1x21x1024x1 .i8) (x1 : Vec F S96x256 .bf16) (x2 : Vec F S5392x256 .bf16) (x3 : Vec F S1x256 .f32) (x4 : Vec F S256x256 .f32) (x5 : Vec F S1x256 .f32) (x6 : Vec F S256x256 .f32) (x7 : Vec F S1x256 .f32)

/-- The first point's one-hot stores are the 21 position blocks. -/
theorem oh_pieces_A (hc0 : cond0_0 i) (hc1 : cond0_1 i) (hc2 : ¬cond0_2 i) :
    (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1
      = down 21 (ohPiece arg2 harg2 x0) 21 le_rfl := by
  sl_kernel_rfl

/-- An even point's one-hot stores are the 21 position blocks. -/
theorem oh_pieces_C (hc0 : ¬cond0_0 i) (hc1 : cond0_1 i) (hc2 : ¬cond0_2 i) (xs1 : Vec F S17x2688x256 .bf16) :
    (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs1).2.1
      = down 21 (ohPiece arg2 harg2 x0) 21 le_rfl := by
  sl_kernel_rfl

/-- The first point's stores into `U` are the 17 × 21 blocks, over a fill with zeros. -/
theorem u_pieces_A (hc0 : cond0_0 i) (hc1 : cond0_1 i) (hc2 : ¬cond0_2 i) :
    ∃ z : List (View.Piece (Elt F) S17x2688x256 .bf16),
    (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.2.1
      = downApp 17 (fun t ht l => downOn 21 (uPiece arg3 harg3 arg4 harg4 x1 x2 t ht) l 21 le_rfl) z 17 le_rfl := by
  refine ⟨[⟨Rect.unit ![0, 0, 0] S17x2688x256.size u0_inb, k0_pay6⟩], ?_⟩
  sl_kernel_rfl
end

end Cert.KernelIdeal.Hand
-- ==== Proof.Contents.lean ====
module

public import proofs.«01_k».proof.Proof.Pieces
public import Idealize.ShloMosaic.Lib.Pipeline.ValueKit
public import Idealize.ShloMosaic.Lib.Pipeline.ReadBack
public import Idealize.ShloMosaic.Lib.Pointwise
public import Idealize.ShloMosaic.Lib.Pipeline.CanonAppend

@[expose] public section

set_option maxRecDepth 16384

noncomputable section

namespace Cert.KernelIdeal.Hand

open Cert.KernelIdeal Cert.KernelIdeal.Gen Idealize.ShloMosaic Idealize.ShloMosaic.TcCoe Idealize.SL.Sem

/-- One block of `U` at an index: a table row times a column of the 256 weight rows. -/
theorem uPay_apply (x1 : Vec Ideal S96x256 .bf16) (w : Vec Ideal S256x256 .bf16) (l : Fin 96) (o : Fin 256) :
    uPay (F := Ideal) x1 w (ix3 0 l o) = ∑ d : Fin 256, x1 (ix2 l d) * w (ix2 d o) := by
  pointwise [uPay]

/-- A truth value, extended and converted to a float, is one or zero. -/
theorem sitofp_eq (x y : BitVec 32) :
    (FloatOps.sitofp (F := Ideal) .f32 (BitVec.setWidth 32 (IntOp.cmpi .eq x y)) : EReal) = if x = y then 1 else 0 := by
  by_cases h : x = y
  · subst h
    simp [IntOp.cmpi, FloatOps.sitofp]
  · have e : (x == y) = false := by simp [h]
    simp [IntOp.cmpi, FloatOps.sitofp, e, h]

/-- One block of one-hot columns at an index: one where the row's id is the column's number, zero elsewhere. -/
theorem ohPay_apply (v : Vec Ideal S1x1x1024x1 .i8) (n : Fin 1024) (l : Fin 128) :
    ohPay (F := Ideal) v (ix2 n l) = if (v (ix4 0 0 n 0)).signExtend 32 = BitVec.ofNat 32 l.val then 1 else 0 := by
  pointwise [ohPay]
  exact sitofp_eq _ _

/-! ## Lists of lists of stores -/

/-- The lists of `f 0`, `f 1`, … put before `z` are those lists put before nothing, with `z` appended. -/
theorem downApp_eq {α : Type} (N M : ℕ) (f : (t : ℕ) → t < N → (p : ℕ) → p < M → α) (z : List α) :
    ∀ (n : ℕ) (h : n ≤ N), downApp N (fun t ht l => downOn M (f t ht) l M le_rfl) z n h
      = downApp N (fun t ht l => downOn M (f t ht) l M le_rfl) [] n h ++ z
  | 0, _ => rfl
  | n + 1, h => by
    rw [downApp, downApp, downOn_eq, downOn_eq M _ (downApp N _ [] n _), downApp_eq N M f z n, List.append_assoc]

/-- What those lists hold: the values `f t p`. -/
theorem mem_downApp {α : Type} {N M : ℕ} {f : (t : ℕ) → t < N → (p : ℕ) → p < M → α} {a : α} :
    ∀ {n : ℕ} {h : n ≤ N}, a ∈ downApp N (fun t ht l => downOn M (f t ht) l M le_rfl) [] n h
      ↔ ∃ (t : ℕ) (ht : t < n) (p : ℕ) (hp : p < M), a = f t (Nat.lt_of_lt_of_le ht h) p hp
  | 0, _ => by simp [downApp]
  | n + 1, h => by
    rw [downApp, downOn_eq, List.mem_append, mem_down, mem_downApp]
    constructor
    · rintro (⟨p, hp, rfl⟩ | ⟨t, ht, p, hp, rfl⟩)
      · exact ⟨n, Nat.lt_succ_self n, p, hp, rfl⟩
      · exact ⟨t, Nat.lt_succ_of_lt ht, p, hp, rfl⟩
    · rintro ⟨t, ht, p, hp, rfl⟩
      rcases Nat.lt_succ_iff_lt_or_eq.mp ht with h' | rfl
      · exact Or.inr ⟨t, h', p, hp, rfl⟩
      · exact Or.inl ⟨p, hp, rfl⟩

/-! ## What the stores leave -/

/-- The one-hot rows: column `128 p + l` of row `n` is one where the id of position `p` is `l`, zero elsewhere. -/
def ohFun (x0 : Vec Ideal S1x21x1024x1 .i8) (y : S1024x2688.Idx) : Ideal .bf16 :=
  if (x0 (ix4 0 ⟨(y 1).val / 128, by have h := (y 1).isLt; change (y 1).val < 2688 at h; omega⟩ (y 0) 0)).signExtend 32 = BitVec.ofNat 32 ((y 1).val % 128) then 1 else 0

/-- `U`: row `128 p + l` at offset `t` is the table's row `l` times the weight rows from `256 p + 16 - t` on. -/
def uFun (x1 : Vec Ideal S96x256 .bf16) (x2 : Vec Ideal S5392x256 .bf16) (y : S17x2688x256.Idx) : Ideal .bf16 :=
  ∑ d : Fin 256, x1 (ix2 ⟨min ((y 1).val % 128) 95, by omega⟩ d)
    * x2 (ix2 ⟨(y 1).val / 128 * 256 + 16 - (y 0).val + d.val, by have h := (y 1).isLt; change (y 1).val < 2688 at h; omega⟩ (y 2))

/-- The store of position `p` holds the one-hot rows' columns from `128 p` on. -/
theorem ohPiece_apply (arg2 : Memref sig .tc .vmem S1x21x1024x1 .i8) (harg2 : arg2.IsWhole) (x0 : Vec Ideal S1x21x1024x1 .i8) (p : ℕ) (hp : p < 21)
    (x : (ohPiece arg2 harg2 x0 p hp).1.shape.Idx) : (ohPiece arg2 harg2 x0 p hp).2 x = ohFun x0 ((ohPiece arg2 harg2 x0 p hp).1.emb x) := by
  obtain ⟨n, l, rfl⟩ : ∃ (n : Fin 1024) (l : Fin 128), x = ix2 n l := ⟨x 0, x 1, by funext a; match a with | ⟨0, _⟩ => rfl | ⟨1, _⟩ => rfl⟩
  show ohPay _ (ix2 n l) = _
  rw [ohPay_apply, View.readAt_eq_ld, Memref.IsWhole.read_unread]
  have h0 : (((ohPiece arg2 harg2 x0 p hp).1.emb (ix2 n l)) 0).val = n.val := (Rect.idx_unit_val _ _ (oh_inb p hp) _ _).trans (Nat.zero_add _)
  have h1 : (((ohPiece arg2 harg2 x0 p hp).1.emb (ix2 n l)) 1).val = p * 128 + l.val := Rect.idx_unit_val _ _ (oh_inb p hp) _ _
  rw [View.ld_unit_apply_of x0 _ _ _ _ (ix4 0 ⟨p, hp⟩ n 0) (fun a => by match a with | ⟨0, _⟩ => rfl | ⟨1, _⟩ => rfl | ⟨2, _⟩ => exact (Nat.zero_add _).symm | ⟨3, _⟩ => rfl), ohFun]
  have e0 : ((ohPiece arg2 harg2 x0 p hp).1.emb (ix2 n l)) 0 = n := Fin.ext h0
  simp only [h1, e0, show (p * 128 + l.val) / 128 = p by omega, show (p * 128 + l.val) % 128 = l.val by omega]

/-- The store at offset `t`, position `p` holds `U`'s rows from `128 p` on. -/
theorem uPiece_apply (arg3 : Memref sig .tc .vmem S96x256 .bf16) (harg3 : arg3.IsWhole) (arg4 : Memref sig .tc .vmem S5392x256 .bf16) (harg4 : arg4.IsWhole)
    (x1 : Vec Ideal S96x256 .bf16) (x2 : Vec Ideal S5392x256 .bf16) (t : ℕ) (ht : t < 17) (p : ℕ) (hp : p < 21)
    (x : (uPiece arg3 harg3 arg4 harg4 x1 x2 t ht p hp).1.shape.Idx) :
    (uPiece arg3 harg3 arg4 harg4 x1 x2 t ht p hp).2 x = uFun x1 x2 ((uPiece arg3 harg3 arg4 harg4 x1 x2 t ht p hp).1.emb x) := by
  obtain ⟨l, o, rfl⟩ : ∃ (l : Fin 96) (o : Fin 256), x = ix3 0 l o :=
    ⟨x 1, x 2, by funext a; match a with | ⟨0, _⟩ => exact Subsingleton.elim (α := Fin 1) _ _ | ⟨1, _⟩ => rfl | ⟨2, _⟩ => rfl⟩
  show uPay _ _ (ix3 0 l o) = _
  rw [uPay_apply, View.readAt_eq_ld, View.readAt_eq_ld, Memref.IsWhole.read_unread, Memref.IsWhole.read_unread, uFun]
  have h0 : (((uPiece arg3 harg3 arg4 harg4 x1 x2 t ht p hp).1.emb (ix3 0 l o)) 0).val = t := (Rect.idx_unit_val _ _ (u_inb t p ht hp) _ _).trans (Nat.add_zero _)
  have h1 : (((uPiece arg3 harg3 arg4 harg4 x1 x2 t ht p hp).1.emb (ix3 0 l o)) 1).val = p * 128 + l.val := Rect.idx_unit_val _ _ (u_inb t p ht hp) _ _
  have h2 : ((uPiece arg3 harg3 arg4 harg4 x1 x2 t ht p hp).1.emb (ix3 0 l o)) 2 = o := Fin.ext ((Rect.idx_unit_val _ _ (u_inb t p ht hp) _ _).trans (Nat.zero_add _))
  refine Finset.sum_congr rfl fun d _ => ?_
  have hl := l.isLt
  rw [View.ld_unit_apply_of x1 _ _ _ _ (ix2 l d) (fun a => by match a with | ⟨0, _⟩ => exact (Nat.zero_add _).symm | ⟨1, _⟩ => exact (Nat.zero_add _).symm),
    View.ld_unit_apply_of x2 _ _ _ _ (ix2 ⟨p * 256 + 16 - t + d.val, by omega⟩ o) (fun a => by match a with | ⟨0, _⟩ => rfl | ⟨1, _⟩ => exact (Nat.zero_add _).symm)]
  simp only [h0, h1, h2, show (p * 128 + l.val) / 128 = p by omega, show (p * 128 + l.val) % 128 = l.val by omega, show min l.val 95 = l.val by omega]

/-- Every index of the one-hot array lies in one of the 21 stores. -/
theorem ohPieces_canon (arg2 : Memref sig .tc .vmem S1x21x1024x1 .i8) (harg2 : arg2.IsWhole) (x0 : Vec Ideal S1x21x1024x1 .i8) :
    View.canon (down 21 (ohPiece arg2 harg2 x0) 21 le_rfl) = ohFun x0 := by
  funext y
  have hy0 := (y 0).isLt
  have hy1 := (y 1).isLt
  change (y 0).val < 1024 at hy0
  change (y 1).val < 2688 at hy1
  have hp : (y 1).val / 128 < 21 := by omega
  rw [← List.append_nil (down 21 (ohPiece arg2 harg2 x0) 21 le_rfl)]
  refine View.canon_append_of_pieces (Val := Elt Ideal) (S := S1024x2688) (e := .bf16) (ohFun x0) [] _ (fun q hq x => ?_) y ⟨_, mem_down.mpr ⟨(y 1).val / 128, hp, rfl⟩, ?_⟩
  · obtain ⟨p, hp, rfl⟩ := mem_down.mp hq
    exact ohPiece_apply arg2 harg2 x0 p hp x
  · refine (Rect.mem_set_unit (inb := oh_inb _ hp)).mpr fun a => ?_
    match a with
    | ⟨0, _⟩ => exact ⟨Nat.zero_le _, by show (y 0).val < 0 + 1024; omega⟩
    | ⟨1, _⟩ => exact ⟨by show (y 1).val / 128 * 128 ≤ (y 1).val; omega, by show (y 1).val < (y 1).val / 128 * 128 + 128; omega⟩

/-- `U` at a row an id of the table names. -/
theorem uPieces_canon (arg3 : Memref sig .tc .vmem S96x256 .bf16) (harg3 : arg3.IsWhole) (arg4 : Memref sig .tc .vmem S5392x256 .bf16) (harg4 : arg4.IsWhole)
    (x1 : Vec Ideal S96x256 .bf16) (x2 : Vec Ideal S5392x256 .bf16) (z : List (View.Piece (Elt Ideal) S17x2688x256 .bf16)) (y : S17x2688x256.Idx) (hy : (y 1).val % 128 < 96) :
    View.canon (downApp 17 (fun t ht l => downOn 21 (uPiece arg3 harg3 arg4 harg4 x1 x2 t ht) l 21 le_rfl) z 17 le_rfl) y = uFun x1 x2 y := by
  have hy0 := (y 0).isLt
  have hy1 := (y 1).isLt
  have hy2 := (y 2).isLt
  change (y 0).val < 17 at hy0
  change (y 1).val < 2688 at hy1
  change (y 2).val < 256 at hy2
  have hp : (y 1).val / 128 < 21 := by omega
  rw [downApp_eq]
  refine View.canon_append_of_pieces (Val := Elt Ideal) (S := S17x2688x256) (e := .bf16) (uFun x1 x2) z _ (fun q hq x => ?_) y ⟨_, mem_downApp.mpr ⟨(y 0).val, hy0, (y 1).val / 128, hp, rfl⟩, ?_⟩
  · obtain ⟨t, ht, p, hp, rfl⟩ := mem_downApp.mp hq
    exact uPiece_apply arg3 harg3 arg4 harg4 x1 x2 t ht p hp x
  · refine (Rect.mem_set_unit (inb := u_inb _ _ hy0 hp)).mpr fun a => ?_
    match a with
    | ⟨0, _⟩ => exact ⟨le_rfl, Nat.lt_succ_self _⟩
    | ⟨1, _⟩ => exact ⟨by show (y 1).val / 128 * 128 ≤ (y 1).val; omega, by show (y 1).val < (y 1).val / 128 * 128 + 96; omega⟩
    | ⟨2, _⟩ => exact ⟨Nat.zero_le _, by show (y 2).val < 0 + 256; omega⟩

variable (c : Dev nD) (i : grid0.Coords) (arg2 : Memref sig .tc .vmem S1x21x1024x1 .i8) (harg2 : arg2.IsWhole) (arg3 : Memref sig .tc .vmem S96x256 .bf16) (harg3 : arg3.IsWhole) (arg4 : Memref sig .tc .vmem S5392x256 .bf16) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x2688 .bf16) (harg11 : arg11.IsWhole) (arg12 : Memref sig .tc .vmem S17x2688x256 .bf16) (harg12 : arg12.IsWhole)
  (x0 : Vec Ideal S1x21x1024x1 .i8) (x1 : Vec Ideal S96x256 .bf16) (x2 : Vec Ideal S5392x256 .bf16) (x3 : Vec Ideal S1x256 .f32) (x4 : Vec Ideal S256x256 .f32) (x5 : Vec Ideal S1x256 .f32) (x6 : Vec Ideal S256x256 .f32) (x7 : Vec Ideal S1x256 .f32)

/-- What the first point leaves in the one-hot array. -/
theorem sout_A_0 (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 = ohFun x0 := by
  rw [sout0_A_0, View.read_writes_junk_eq_canon, oh_pieces_A, ohPieces_canon]

/-- What an even point leaves in the one-hot array. -/
theorem sout_C_0 (hc0 : ¬cond0_0 i) (hc1 : cond0_1 i) (hc2 : ¬cond0_2 i) (xs1 : Vec Ideal S17x2688x256 .bf16) :
    sout0_C_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs1 = ohFun x0 := by
  rw [sout0_C_0, View.read_writes_junk_eq_canon, oh_pieces_C, ohPieces_canon]

/-- What the first point leaves in `U`, at a row an id of the table names. -/
theorem sout_A_1 (hc0 : cond0_0 i) (hc1 : cond0_1 i) (hc2 : ¬cond0_2 i) (y : S17x2688x256.Idx) (hy : (y 1).val % 128 < 96) :
    sout0_A_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 y = uFun x1 x2 y := by
  obtain ⟨z, hz⟩ := u_pieces_A c i arg2 harg2 arg3 harg3 arg4 harg4 arg5 harg5 arg6 harg6 arg7 harg7 arg8 harg8 arg9 harg9 arg10 harg10 arg11 harg11 arg12 harg12 x0 x1 x2 x3 x4 x5 x6 x7 hc0 hc1 hc2
  rw [sout0_A_1, View.read_writes_junk_eq_canon, hz, uPieces_canon _ _ _ _ _ _ _ _ hy]

end Cert.KernelIdeal.Hand
-- ==== Proof.Sums.lean ====
module

public import Idealize.ShloMosaic.Lib.Pipeline.ValueKit
public import Idealize.ShloMosaic.Lib.Pointwise

@[expose] public section

noncomputable section

namespace Cert.Sums

open Finset

/-- `n` rows of `L` entries, row by row, are the first `n * L` entries. -/
theorem sum_rows (f : ℕ → EReal) (n L : ℕ) : ∑ p ∈ range n, ∑ d ∈ range L, f (p * L + d) = ∑ j ∈ range (n * L), f j := by
  induction n with
  | zero => simp
  | succ n ih => rw [sum_range_succ, ih, Nat.succ_mul, sum_range_add]

/-- A sum whose terms vanish outside the five places from `t` on. -/
theorem sum_window (f : ℕ → EReal) (t : ℕ) (ht : t < 17) :
    (∑ v ∈ range 21, if t ≤ v ∧ v < t + 5 then f v else 0) = ∑ k ∈ range 5, f (t + k) := by
  rw [← sum_filter]
  have e : (range 21).filter (fun v => t ≤ v ∧ v < t + 5) = Ico t (t + 5) := by
    ext v; simp only [mem_filter, mem_range, mem_Ico]; omega
  rw [e, sum_Ico_eq_sum_range]
  simp

/-- The filter weight that row `r` of the padded, reordered weights holds: `w channel tap` where the row is past the
    padding and its tap is one of the five, and zero elsewhere. -/
def padded (w : ℕ → ℕ → EReal) (r : ℕ) : EReal := if 16 ≤ r ∧ (r - 16) % 21 < 5 then w ((r - 16) / 21) ((r - 16) % 21) else 0

/-- THE CONVOLUTION AS A SUM OVER CHARACTERS: at offset `t`, the flat word times the padded weights shifted by `t`,
    one character of 256 numbers after the other, is the five taps' products with the word read as 256 channels of 21 positions. -/
theorem conv_sum (x : ℕ → EReal) (w : ℕ → ℕ → EReal) (t : ℕ) (ht : t < 17) :
    ∑ p ∈ range 21, ∑ d ∈ range 256, x (p * 256 + d) * padded w (p * 256 + 16 - t + d)
      = ∑ k ∈ range 5, ∑ ch ∈ range 256, x (ch * 21 + (t + k)) * w ch k := by
  have e1 : ∀ p ∈ range 21, ∀ d ∈ range 256, x (p * 256 + d) * padded w (p * 256 + 16 - t + d)
      = (fun j => x j * padded w (j + 16 - t)) (p * 256 + d) := by
    intro p _ d _
    show _ = x (p * 256 + d) * padded w (p * 256 + d + 16 - t)
    congr 2; omega
  rw [sum_congr rfl fun p hp => sum_congr rfl fun d hd => e1 p hp d hd,
    sum_rows (fun j => x j * padded w (j + 16 - t)) 21 256, show 21 * 256 = 256 * 21 from rfl,
    ← sum_rows (fun j => x j * padded w (j + 16 - t)) 256 21, sum_comm (s := range 5)]
  refine sum_congr rfl fun ch hch => ?_
  have e2 : ∀ v ∈ range 21, (fun j => x j * padded w (j + 16 - t)) (ch * 21 + v)
      = if t ≤ v ∧ v < t + 5 then x (ch * 21 + v) * w ch (v - t) else 0 := by
    intro v hv
    have hv' := mem_range.mp hv
    show x (ch * 21 + v) * padded w (ch * 21 + v + 16 - t) = _
    unfold padded
    by_cases h1 : t ≤ v
    · have hr : ch * 21 + v + 16 - t - 16 = ch * 21 + (v - t) := by omega
      rw [hr, show (ch * 21 + (v - t)) % 21 = v - t by omega, show (ch * 21 + (v - t)) / 21 = ch by omega]
      by_cases h2 : v < t + 5
      · rw [if_pos ⟨by omega, by omega⟩, if_pos ⟨h1, h2⟩]
      · rw [if_neg (by omega), if_neg (by omega), mul_zero]
    · rw [if_neg (by omega), if_neg (by omega), mul_zero]
  rw [sum_congr rfl e2, sum_window (fun v => x (ch * 21 + v) * w ch (v - t)) t ht]
  refine sum_congr rfl fun k _ => ?_
  rw [Nat.add_sub_cancel_left]

/-- The largest of `f 0`, …, `f n`, taken one after the other. -/
def maxTo (f : ℕ → EReal) : ℕ → EReal
  | 0 => f 0
  | n + 1 => max (maxTo f n) (f (n + 1))

/-- Taken one after the other from the least value, the largest is the same. -/
theorem maxTo_eq_fold (f : ℕ → EReal) (n : ℕ) : maxTo f n = (univ : Finset (Fin (n + 1))).fold max ⊥ fun k => f k.val := by
  refine le_antisymm ?_ ?_
  · have h : ∀ k, k ≤ n → maxTo f k ≤ (univ : Finset (Fin (n + 1))).fold max ⊥ fun k => f k.val := by
      intro k
      induction k with
      | zero => exact fun _ => (le_fold_max _).mpr (Or.inr ⟨⟨0, by omega⟩, mem_univ _, le_rfl⟩)
      | succ k ih => exact fun hk => max_le (ih (by omega)) ((le_fold_max _).mpr (Or.inr ⟨⟨k + 1, by omega⟩, mem_univ _, le_rfl⟩))
    exact h n le_rfl
  · refine (fold_max_le _).mpr ⟨bot_le, fun k _ => ?_⟩
    have h : ∀ j m, j ≤ m → f j ≤ maxTo f m := by
      intro j m
      induction m with
      | zero => intro hj; obtain rfl : j = 0 := by omega
                exact le_rfl
      | succ m ih =>
        intro hj
        rcases Nat.lt_or_ge m j with h' | h'
        · obtain rfl : j = m + 1 := by omega
          exact le_max_right _ _
        · exact (ih h').trans (le_max_left _ _)
    exact h k.val n (by omega)

/-- The flat word: place `j` is entry `j % 256` of the table's row at the id of position `j / 256`. -/
def word (T : Fin 96 → Fin 256 → EReal) (id : Fin 21 → ℕ) (j : ℕ) : EReal :=
  if h : j < 5376 then T ⟨min (id ⟨j / 256, by omega⟩) 95, by omega⟩ ⟨j % 256, Nat.mod_lt _ (by omega)⟩ else 0

/-- One output channel's filter weights by channel and tap. -/
def tap (w : Fin 256 → Fin 5 → EReal) (ch k : ℕ) : EReal := if h : ch < 256 ∧ k < 5 then w ⟨ch, h.1⟩ ⟨k, h.2⟩ else 0

/-- The convolution of a flat word at offset `t`. -/
def convAt (x : ℕ → EReal) (w : ℕ → ℕ → EReal) (t : ℕ) : EReal := ∑ k ∈ range 5, ∑ ch ∈ range 256, x (ch * 21 + (t + k)) * w ch k

/-- A one-hot row of 21 blocks of 128 picks one entry of each block. -/
theorem onehot_sum (g oh : Fin 2688 → EReal) (id : Fin 21 → ℕ) (hid : ∀ p, id p < 128)
    (hoh : ∀ r : Fin 2688, oh r = if id ⟨r.val / 128, by omega⟩ = r.val % 128 then 1 else 0) :
    ∑ r, oh r * g r = ∑ p : Fin 21, g ⟨p.val * 128 + id p, by have := hid p; omega⟩ := by
  have e : ∀ r : Fin 2688, oh r * g r = if id ⟨r.val / 128, by omega⟩ = r.val % 128 then g r else 0 := by
    intro r
    rw [hoh]
    split_ifs with h
    · rw [one_mul]
    · rw [zero_mul]
  rw [sum_congr rfl fun r _ => e r, ← sum_filter]
  refine sum_bij' (fun r _ => (⟨r.val / 128, by omega⟩ : Fin 21)) (fun p _ => (⟨p.val * 128 + id p, by have := hid p; omega⟩ : Fin 2688)) ?_ ?_ ?_ ?_ ?_
  · exact fun r _ => mem_univ _
  · intro p _
    have hp := hid p
    have e1 : (⟨(p.val * 128 + id p) / 128, by omega⟩ : Fin 21) = p := Fin.ext (by show (p.val * 128 + id p) / 128 = p.val; omega)
    rw [mem_filter]
    refine ⟨mem_univ _, ?_⟩
    show id ⟨(p.val * 128 + id p) / 128, _⟩ = (p.val * 128 + id p) % 128
    rw [e1]; omega
  · intro r hr
    have hr' := (mem_filter.mp hr).2
    refine Fin.ext ?_
    show r.val / 128 * 128 + id ⟨r.val / 128, _⟩ = r.val
    rw [hr']; omega
  · intro p _
    have hp := hid p
    refine Fin.ext ?_
    show (p.val * 128 + id p) / 128 = p.val
    omega
  · intro r hr
    have hr' := (mem_filter.mp hr).2
    refine congrArg g (Fin.ext ?_)
    show r.val = r.val / 128 * 128 + id ⟨r.val / 128, _⟩
    rw [hr']; omega

/-- The table rows of the ids times the shifted padded weights are the convolution of the flat word. -/
theorem rows_sum (T : Fin 96 → Fin 256 → EReal) (id : Fin 21 → ℕ) (w : ℕ → ℕ → EReal) (t : ℕ) (ht : t < 17) :
    ∑ p : Fin 21, ∑ d : Fin 256, T ⟨min (id p) 95, by omega⟩ d * padded w (p.val * 256 + 16 - t + d.val) = convAt (word T id) w t := by
  rw [convAt, ← conv_sum _ _ t ht, sum_range]
  refine sum_congr rfl fun p _ => ?_
  rw [sum_range]
  refine sum_congr rfl fun d _ => ?_
  rw [word, dif_pos (by omega)]
  have e1 : (p.val * 256 + d.val) / 256 = p.val := by omega
  have e2 : (p.val * 256 + d.val) % 256 = d.val := by omega
  simp only [e1, e2]

/-- The word's embedding before the highway layer: the largest of the 17 offsets' positive parts. -/
def pooled (x : ℕ → EReal) (w : ℕ → ℕ → EReal) (b : EReal) : EReal := maxTo (fun t => max (convAt x w t + b) 0) 16

/-- The highway layer of a row `x`, from the two weight rows and biases of one output channel and that channel's own entry. -/
def highwayAt (x wp : Fin 256 → EReal) (bp : EReal) (wg : Fin 256 → EReal) (bg : EReal) (own : EReal) : EReal :=
  Idealize.ShloMosaic.Ideal.logistic (∑ d, x d * wg d + bg) * max (∑ d, x d * wp d + bp) 0
    + (1 - Idealize.ShloMosaic.Ideal.logistic (∑ d, x d * wg d + bg)) * own

end Cert.Sums
-- ==== Proof.CaseB.lean ====
module

public import proofs.«01_k».proof.Proof.Gen.KernelIdeal.Value
public import proofs.«01_k».proof.Proof.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem

/-- The slab of `U` at offset `t` lies in `U`. -/
theorem slab_inb (t : ℕ) (ht : t < 17) : ∀ a, (![t, 0, 0] : Fin 3 → ℕ) a + (![1, 2688, 256] : Fin 3 → ℕ) a ≤ S17x2688x256.size a := by
  intro a; fin_cases a <;> simp <;> omega

/-- The slab of `U` at offset `t`, under its unit axis. -/
def slab (xs1 : Vec Ideal S17x2688x256 .bf16) (t : ℕ) (ht : t < 17) : Vec Ideal S1x2688x256 .bf16 :=
  View.ld xs1 (Rect.unit (s := S17x2688x256) ![t, 0, 0] ![1, 2688, 256] (slab_inb t ht))

/-- The slab at an index is `U` there. -/
theorem slab_apply (xs1 : Vec Ideal S17x2688x256 .bf16) (t : ℕ) (ht : t < 17) (r : Fin 2688) (o : Fin 256) : slab xs1 t ht (ix3 0 r o) = xs1 (ix3 ⟨t, ht⟩ r o) :=
  View.ld_unit_apply_of xs1 _ _ (slab_inb t ht) (ix3 0 r o) (ix3 ⟨t, ht⟩ r o)
    (fun a => by match a with | ⟨0, _⟩ => rfl | ⟨1, _⟩ => exact (Nat.zero_add _).symm | ⟨2, _⟩ => exact (Nat.zero_add _).symm)

/-- A bias row as the body spreads it over 1024 rows. -/
def biasRows (b : Vec Ideal S1x256 .f32) : FVec Ideal S1024x256 .f32 :=
  broadcastTo S1024x256 (shapeCast S1x256 (shapeCast S256 b shapeCasts_S1x256_S256) shapeCasts_S256_S1x256) broadcasts_S1x256_S1024x256

/-- The positive part, taken as the body takes it. -/
def posPart (v : FVec Ideal S1024x256 .f32) : FVec Ideal S1024x256 .f32 := maximumf v (broadcast S1024x256 (Scalar.ofBits .f32 0x00000000#32))

/-- One offset's layer: the one-hot rows times the slab of `U` at `t`, the bias added, the positive part taken. -/
def offsetLayer (xs0 : Vec Ideal S1024x2688 .bf16) (xs1 : Vec Ideal S17x2688x256 .bf16) (x3 : Vec Ideal S1x256 .f32) (t : ℕ) (ht : t < 17) : FVec Ideal S1024x256 .f32 :=
  posPart (addf (matmul (φ₁ := .bf16) (φ₂ := .bf16) dot_S1024x2688_S2688x256_S1024x256_1_0_0_1_n_n none xs0
    (shapeCast S2688x256 (slab xs1 t ht) shapeCasts_S1x2688x256_S2688x256)
    (constant S1024x256 .f32 0x00000000#32)) (biasRows x3))

/-- The largest of the layers at offsets `0`, …, `n`. -/
def largest (xs0 : Vec Ideal S1024x2688 .bf16) (xs1 : Vec Ideal S17x2688x256 .bf16) (x3 : Vec Ideal S1x256 .f32) : (n : ℕ) → n < 17 → FVec Ideal S1024x256 .f32
  | 0, h => offsetLayer xs0 xs1 x3 0 h
  | n + 1, h => maximumf (largest xs0 xs1 x3 n (Nat.lt_of_succ_lt h)) (offsetLayer xs0 xs1 x3 (n + 1) h)

/-- A row block times a weight matrix, plus a bias row. -/
def affine (v : FVec Ideal S1024x256 .f32) (w : Vec Ideal S256x256 .f32) : FVec Ideal S1024x256 .f32 :=
  matmul (φ₁ := .f32) (φ₂ := .f32) dot_S1024x256_S256x256_S1024x256_1_0_0_1_n_n none v (shapeCast S256x256 w shapeCasts_S256x256_S256x256) (constant S1024x256 .f32 0x00000000#32)

/-- The highway layer over a row block, as the body computes it. -/
def highwayRows (v : FVec Ideal S1024x256 .f32) (x4 : Vec Ideal S256x256 .f32) (x5 : Vec Ideal S1x256 .f32) (x6 : Vec Ideal S256x256 .f32) (x7 : Vec Ideal S1x256 .f32) : FVec Ideal S1024x256 .f32 :=
  addf (mulf (logistic (addf (affine v x6) (biasRows x7))) (posPart (addf (affine v x4) (biasRows x5))))
    (mulf (subf (broadcast S1024x256 (Scalar.ofBits .f32 0x3F800000#32)) (logistic (addf (affine v x6) (biasRows x7)))) v)

section
variable (c : Dev nD) (i : grid0.Coords) (arg2 : Memref sig .tc .vmem S1x21x1024x1 .i8) (harg2 : arg2.IsWhole) (arg3 : Memref sig .tc .vmem S96x256 .bf16) (harg3 : arg3.IsWhole) (arg4 : Memref sig .tc .vmem S5392x256 .bf16) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x2688 .bf16) (harg11 : arg11.IsWhole) (arg12 : Memref sig .tc .vmem S17x2688x256 .bf16) (harg12 : arg12.IsWhole)
  (x0 : Vec Ideal S1x21x1024x1 .i8) (x1 : Vec Ideal S96x256 .bf16) (x2 : Vec Ideal S5392x256 .bf16) (x3 : Vec Ideal S1x256 .f32) (x4 : Vec Ideal S256x256 .f32) (x5 : Vec Ideal S1x256 .f32) (x6 : Vec Ideal S256x256 .f32) (x7 : Vec Ideal S1x256 .f32)

/-- What an odd point leaves in the output block, as these stages. -/
theorem out_B (hc0 : ¬cond0_0 i) (hc1 : ¬cond0_1 i) (hc2 : cond0_2 i) (xs0 : Vec Ideal S1024x2688 .bf16) (xs1 : Vec Ideal S17x2688x256 .bf16) (y : S1024x256.Idx) :
    out0_B_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 y
      = highwayRows (largest xs0 xs1 x3 16 (by omega)) x4 x5 x6 x7 y := by
  frame_out
  sl_kernel_rfl
end

/-- One offset's layer at an index. -/
theorem offsetLayer_apply (xs0 : Vec Ideal S1024x2688 .bf16) (xs1 : Vec Ideal S17x2688x256 .bf16) (x3 : Vec Ideal S1x256 .f32) (t : ℕ) (ht : t < 17) (n : Fin 1024) (o : Fin 256) :
    offsetLayer xs0 xs1 x3 t ht (ix2 n o) = max ((∑ r : Fin 2688, xs0 (ix2 n r) * xs1 (ix3 ⟨t, ht⟩ r o)) + x3 (ix2 0 o)) 0 := by
  pointwise [offsetLayer, posPart, biasRows]
  simp only [slab_apply]

/-- The largest of the layers at an index. -/
theorem largest_apply (xs0 : Vec Ideal S1024x2688 .bf16) (xs1 : Vec Ideal S17x2688x256 .bf16) (x3 : Vec Ideal S1x256 .f32) (f : ℕ → EReal) (n : Fin 1024) (o : Fin 256)
    (hf : ∀ (t : ℕ) (ht : t < 17), max ((∑ r : Fin 2688, xs0 (ix2 n r) * xs1 (ix3 ⟨t, ht⟩ r o)) + x3 (ix2 0 o)) 0 = f t) :
    ∀ (k : ℕ) (hk : k < 17), largest xs0 xs1 x3 k hk (ix2 n o) = Sums.maxTo f k
  | 0, hk => (offsetLayer_apply xs0 xs1 x3 0 hk n o).trans (hf 0 hk)
  | k + 1, hk => congrArg₂ max (largest_apply xs0 xs1 x3 f n o hf k (Nat.lt_of_succ_lt hk)) ((offsetLayer_apply xs0 xs1 x3 (k + 1) hk n o).trans (hf (k + 1) hk))

/-- The highway layer at an index. -/
theorem highwayRows_apply (v : FVec Ideal S1024x256 .f32) (x4 : Vec Ideal S256x256 .f32) (x5 : Vec Ideal S1x256 .f32) (x6 : Vec Ideal S256x256 .f32) (x7 : Vec Ideal S1x256 .f32)
    (n : Fin 1024) (o : Fin 256) : highwayRows v x4 x5 x6 x7 (ix2 n o)
      = Sums.highwayAt (fun d => v (ix2 n d)) (fun d => x4 (ix2 d o)) (x5 (ix2 0 o)) (fun d => x6 (ix2 d o)) (x7 (ix2 0 o)) (v (ix2 n o)) := by
  pointwise [highwayRows, affine, posPart, biasRows]
  rfl

end Cert.KernelIdeal.Hand
-- ==== Proof.Windows.lean ====
module

public import proofs.«01_k».proof.Proof.Gen.KernelIdeal.Value
public import proofs.«01_k».proof.Proof.Sums
public import Idealize.ShloMosaic.Lib.Pipeline.ValueKit
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- The ids as the host hands them on: cut to eight bits, regrouped, positions before rows. -/
def hostIds (I : IVec S64x64x21 32) : IVec S4x21x1024x1 8 :=
  broadcastInDim S4x21x1024x1 ![0, 1, 2] bcast_S4x21x1024_S4x21x1024x1_0_1_2
    (transpose S4x21x1024 [0, 2, 1] (shapeCast S4x1024x21 (trunci 8 I natLt_8_32) shapeCasts_S64x64x21_S4x1024x21) transposes_S4x1024x21_S4x21x1024_0_2_1)

/-- The filter weights as the host hands them on: 16 zero taps after the five, tap order by channel, 16 zero rows in front. -/
def hostW (W : FVec Ideal S256x256x5 .f32) : FVec Ideal S5392x256 .bf16 :=
  truncf .bf16 (pad S5392x256 ![16, 0] ![0, 0] ![0, 0]
    (shapeCast S5376x256 (transpose S256x21x256 [1, 2, 0]
      (pad S256x256x21 ![0, 0, 0] ![0, 0, 16] ![0, 0, 0] W (sitofp .f32 (constantI S_ 32 0#32)) pads_S256x256x5_S256x256x21_000_000_0160 h_S_)
      transposes_S256x256x21_S256x21x256_1_2_0) shapeCasts_S256x21x256_S5376x256)
    (sitofp .f32 (constantI S_ 32 0#32)) pads_S5376x256_S5392x256_1600_000 h_S_) bitsLt_bf16_f32

/-- The embedding table as the host hands it on. -/
def hostT (T : FVec Ideal S96x256 .f32) : FVec Ideal S96x256 .bf16 := truncf .bf16 T bitsLt_bf16_f32

/-- A bias as the host hands it on. -/
def hostB (b : FVec Ideal S256 .f32) : FVec Ideal S1x256 .f32 := shapeCast S1x256 b shapeCasts_S256_S1x256

/-- A linear layer's weights as the host hands them on. -/
def hostL (w : FVec Ideal S256x256 .f32) : FVec Ideal S256x256 .f32 := transpose S256x256 [1, 0] w transposes_S256x256_S256x256_1_0

/-! ## The buffers when the region is entered -/

/-- The ids at the region's entry. -/
theorem V_ids (c : Dev nD) : V m c main_v3 = hostIds (m ((c.tc : Thread nD τ).loc main_arg0)) := by
  sl_kernel_rfl

/-- The table at the region's entry. -/
theorem V_table (c : Dev nD) : V m c main_v4 = hostT (m ((c.tc : Thread nD τ).loc main_arg1)) := by
  sl_kernel_rfl

/-- The filter weights at the region's entry. -/
theorem V_weights (c : Dev nD) : V m c main_v9 = hostW (m ((c.tc : Thread nD τ).loc main_arg2)) := by
  sl_kernel_rfl

/-- The convolution's bias at the region's entry. -/
theorem V_cb (c : Dev nD) : V m c main_v10 = hostB (m ((c.tc : Thread nD τ).loc main_arg3)) := by
  sl_kernel_rfl

/-- The projection's bias at the region's entry. -/
theorem V_bp (c : Dev nD) : V m c main_v11 = hostB (m ((c.tc : Thread nD τ).loc main_arg5)) := by
  sl_kernel_rfl

/-- The gate's bias at the region's entry. -/
theorem V_bg (c : Dev nD) : V m c main_v12 = hostB (m ((c.tc : Thread nD τ).loc main_arg7)) := by
  sl_kernel_rfl

/-- The projection's weights at the region's entry. -/
theorem V_wp (c : Dev nD) : V m c main_v13 = hostL (m ((c.tc : Thread nD τ).loc main_arg4)) := by
  sl_kernel_rfl

/-- The gate's weights at the region's entry. -/
theorem V_wg (c : Dev nD) : V m c main_v14 = hostL (m ((c.tc : Thread nD τ).loc main_arg6)) := by
  sl_kernel_rfl

/-! ## The host's arrays at an index -/

/-- The ids at an index. -/
theorem hostIds_apply (I : IVec S64x64x21 32) (b : Fin 4) (p : Fin 21) (n : Fin 1024) :
    hostIds I (ix4 b p n 0) = BitVec.setWidth 8 (I (ix3 ⟨b.val * 16 + n.val / 64, by omega⟩ ⟨n.val % 64, by omega⟩ p)) := by
  pointwise [hostIds]

/-- The zero word as a float is zero. -/
theorem sitofp_zero : (FloatOps.sitofp (F := Ideal) .f32 0#32 : EReal) = 0 := by
  simp [FloatOps.sitofp]

/-- The filter weights at an index: inside the padding rows and taps the weight of its channel and tap, zero elsewhere. -/
theorem hostW_cases (W : FVec Ideal S256x256x5 .f32) (r : Fin 5392) (o : Fin 256) :
    hostW W (ix2 r o) = if h : 16 ≤ r.val ∧ r.val - 16 < 5376 then
        if h' : (r.val - 16) / 21 < 256 ∧ (r.val - 16) % 21 < 5 then W (ix3 o ⟨(r.val - 16) / 21, h'.1⟩ ⟨(r.val - 16) % 21, h'.2⟩) else 0
      else 0 := by
  pointwise [hostW]
  simp only [sitofp_zero]

/-- The filter weights at an index: the padded weights of the output channel. -/
theorem hostW_apply (W : FVec Ideal S256x256x5 .f32) (r : Fin 5392) (o : Fin 256) :
    hostW W (ix2 r o) = Sums.padded (Sums.tap fun ch k => W (ix3 o ch k)) r.val := by
  have hr := r.isLt
  rw [hostW_cases, Sums.padded]
  by_cases h1 : 16 ≤ r.val ∧ (r.val - 16) % 21 < 5
  · rw [if_pos h1, dif_pos ⟨h1.1, by omega⟩, dif_pos ⟨by omega, h1.2⟩, Sums.tap, dif_pos ⟨by omega, h1.2⟩]
  · rw [if_neg h1]
    by_cases h2 : 16 ≤ r.val ∧ r.val - 16 < 5376
    · rw [dif_pos h2, dif_neg fun h => h1 ⟨h2.1, h.2⟩]
    · rw [dif_neg h2]

/-- The table at an index. -/
theorem hostT_apply (T : FVec Ideal S96x256 .f32) (a : Fin 96) (d : Fin 256) : hostT T (ix2 a d) = T (ix2 a d) := by
  pointwise [hostT]

/-- A bias at an index. -/
theorem hostB_apply (b : FVec Ideal S256 .f32) (o : Fin 256) : hostB b (ix2 0 o) = b (ix1 o) := by
  pointwise [hostB]

/-- A linear layer's weights at an index. -/
theorem hostL_apply (w : FVec Ideal S256x256 .f32) (d o : Fin 256) : hostL w (ix2 d o) = w (ix2 o d) := by
  pointwise [hostL]

/-! ## The windows' blocks at an index -/

/-- The block of ids at a point. -/
theorem blk_ids (c : Dev nD) (t : Fin cfg0.N) (p : Fin 21) (n : Fin 1024) :
    iblk m c 0 t (ix4 0 p n 0) = hostIds (m ((c.tc : Thread nD τ).loc main_arg0)) (ix4 ⟨t.val / 2, by have h := lt_of_lt_of_eq t.isLt (show cfg0.N = 8 from N_0); omega⟩ p n 0) := by
  show V m c main_v3 (((cfg0.win 0).blk t).view.emb (ix4 0 p n 0)) = _
  rw [V_ids]
  have e := (by decide +kernel : ∀ t : Fin grid0.N, win0_0.index t = ![t.val / 2, 0, 0, 0]) t
  refine congrArg _ (funext fun q => Fin.ext ?_)
  match q with
  | ⟨0, _⟩ => show win0_0.index t 0 * 1 + 1 * 0 = t.val / 2; rw [e]; simp
  | ⟨1, _⟩ => show win0_0.index t 1 * 21 + 1 * p.val = p.val; rw [e]; simp
  | ⟨2, _⟩ => show win0_0.index t 2 * 1024 + 1 * n.val = n.val; rw [e]; simp
  | ⟨3, _⟩ => show win0_0.index t 3 * 1 + 1 * 0 = 0; rw [e]; simp

/-- The window of the table is the whole of it at every point. -/
theorem blk_table (c : Dev nD) (t : Fin cfg0.N) : iblk m c 1 t = hostT (m ((c.tc : Thread nD τ).loc main_arg1)) :=
  (funext fun y => congrArg (V m c main_v4) (funext fun q => Fin.ext
    (win0_1.rect_emb_val_of_index_zero t q ((by decide +kernel : ∀ (t : Fin grid0.N) (q : Fin 2), win0_1.index t q = 0) t q) y))).trans (V_table m c)

/-- The window of the filter weights is the whole of it at every point. -/
theorem blk_weights (c : Dev nD) (t : Fin cfg0.N) : iblk m c 2 t = hostW (m ((c.tc : Thread nD τ).loc main_arg2)) :=
  (funext fun y => congrArg (V m c main_v9) (funext fun q => Fin.ext
    (win0_2.rect_emb_val_of_index_zero t q ((by decide +kernel : ∀ (t : Fin grid0.N) (q : Fin 2), win0_2.index t q = 0) t q) y))).trans (V_weights m c)

/-- The window of the convolution's bias is the whole of it at every point. -/
theorem blk_cb (c : Dev nD) (t : Fin cfg0.N) : iblk m c 3 t = hostB (m ((c.tc : Thread nD τ).loc main_arg3)) :=
  (funext fun y => congrArg (V m c main_v10) (funext fun q => Fin.ext
    (win0_3.rect_emb_val_of_index_zero t q ((by decide +kernel : ∀ (t : Fin grid0.N) (q : Fin 2), win0_3.index t q = 0) t q) y))).trans (V_cb m c)

/-- The window of the projection's weights is the whole of it at every point. -/
theorem blk_wp (c : Dev nD) (t : Fin cfg0.N) : iblk m c 4 t = hostL (m ((c.tc : Thread nD τ).loc main_arg4)) :=
  (funext fun y => congrArg (V m c main_v13) (funext fun q => Fin.ext
    (win0_4.rect_emb_val_of_index_zero t q ((by decide +kernel : ∀ (t : Fin grid0.N) (q : Fin 2), win0_4.index t q = 0) t q) y))).trans (V_wp m c)

/-- The window of the projection's bias is the whole of it at every point. -/
theorem blk_bp (c : Dev nD) (t : Fin cfg0.N) : iblk m c 5 t = hostB (m ((c.tc : Thread nD τ).loc main_arg5)) :=
  (funext fun y => congrArg (V m c main_v11) (funext fun q => Fin.ext
    (win0_5.rect_emb_val_of_index_zero t q ((by decide +kernel : ∀ (t : Fin grid0.N) (q : Fin 2), win0_5.index t q = 0) t q) y))).trans (V_bp m c)

/-- The window of the gate's weights is the whole of it at every point. -/
theorem blk_wg (c : Dev nD) (t : Fin cfg0.N) : iblk m c 6 t = hostL (m ((c.tc : Thread nD τ).loc main_arg6)) :=
  (funext fun y => congrArg (V m c main_v14) (funext fun q => Fin.ext
    (win0_6.rect_emb_val_of_index_zero t q ((by decide +kernel : ∀ (t : Fin grid0.N) (q : Fin 2), win0_6.index t q = 0) t q) y))).trans (V_wg m c)

/-- The window of the gate's bias is the whole of it at every point. -/
theorem blk_bg (c : Dev nD) (t : Fin cfg0.N) : iblk m c 7 t = hostB (m ((c.tc : Thread nD τ).loc main_arg7)) :=
  (funext fun y => congrArg (V m c main_v12) (funext fun q => Fin.ext
    (win0_7.rect_emb_val_of_index_zero t q ((by decide +kernel : ∀ (t : Fin grid0.N) (q : Fin 2), win0_7.index t q = 0) t q) y))).trans (V_bg m c)

end Cert.KernelIdeal.Hand
-- ==== Proof.Reference.lean ====
module

public import proofs.«01_k».proof.Proof.Gen.ReferenceIdeal.Run
public import Idealize.ShloMosaic.Lib.Pointwise
public import Idealize.ShloMosaic.Lib.Tactic
public import proofs.«01_k».proof.Proof.Sums

@[expose] public section

set_option maxRecDepth 16384

noncomputable section

namespace Cert.ReferenceIdeal.Hand

open Cert.ReferenceIdeal Cert.ReferenceIdeal.Gen Idealize.ShloMosaic Idealize.ShloMosaic.TcCoe Idealize.SL.Sem

/-! ## The reference's stages over its arguments -/

/-- The ids with negative ones moved up by the table's length, as the take wraps them. -/
def wrapIds (I : IVec S64x64x21 32) : IVec S64x64x21 32 :=
  select (cmpi .slt I (broadcastInDim S64x64x21 ![] bcast_S_S64x64x21 (constantI S_ 32 0#32))) (addi I (broadcastInDim S64x64x21 ![] bcast_S_S64x64x21 (constantI S_ 32 96#32))) I

/-- The wrapped ids under a trailing unit axis. -/
def idCol (I : IVec S64x64x21 32) : IVec S64x64x21x1 32 := broadcastInDim S64x64x21x1 ![0, 1, 2] bcast_S64x64x21_S64x64x21x1_0_1_2 (wrapIds I)

/-- Where the wrapped id is in the table. -/
def inTable (I : IVec S64x64x21 32) : IVec S64x64x21 1 :=
  Host.reduce IntOp.andi (andi (cmpi .sge (idCol I) (broadcastInDim S64x64x21x1 ![] bcast_S_S64x64x21x1 (constantI S_ 32 0#32)))
    (cmpi .sle (idCol I) (broadcastInDim S64x64x21x1 ![0, 1, 2, 3] bcast_S1x1x1x1_S64x64x21x1_0_1_2_3 (broadcastInDim S1x1x1x1 ![3] bcast_S1_S1x1x1x1_3 (constantI S1 32 95#32)))))
    (constantI S_ 1 1#1) reducesTo_S64x64x21x1_S64x64x21_d3 h_S_

/-- The embedded characters, one row of 256 per id. -/
def embeds (I : IVec S64x64x21 32) (T : FVec Ideal S96x256 .f32) : FVec Ideal S64x64x21x256 .f32 :=
  select (broadcastInDim S64x64x21x256 ![0, 1, 2] bcast_S64x64x21_S64x64x21x256_0_1_2 (inTable I))
    (Host.gather gather_S96x256_S64x64x21x1_S64x64x21x256_3_0_n_n_0_3_1256 T (idCol I))
    (broadcastInDim S64x64x21x256 ![] bcast_S_S64x64x21x256 (constant S_ .f32 0x7FC00000#32))

/-- The embedded words, each reread as 256 channels of 21 positions. -/
def words (I : IVec S64x64x21 32) (T : FVec Ideal S96x256 .f32) : FVec Ideal S4096x256x21 .f32 :=
  shapeCast _ (embeds I T) shapeCasts_S64x64x21x256_S4096x256x21

/-- The convolution: five shifted products, added up from zero. -/
def conv (X : FVec Ideal S4096x256x21 .f32) (W : FVec Ideal S256x256x5 .f32) : FVec Ideal S4096x17x256 .f32 :=
  addf (addf (addf (addf (addf (broadcastInDim S4096x17x256 ![] bcast_S_S4096x17x256 (constant S_ .f32 0x00000000#32))
    (Host.dotGeneral dot_S4096x256x17_S256x256_S4096x17x256_1_1_02_0_n_n none (extractStridedSlice S4096x256x17 ![0, 0, 0] X slices_S4096x256x21_S4096x256x17_0_0_0) (shapeCast _ (extractStridedSlice S256x256x1 ![0, 0, 0] W slices_S256x256x5_S256x256x1_0_0_0) shapeCasts_S256x256x1_S256x256)))
    (Host.dotGeneral dot_S4096x256x17_S256x256_S4096x17x256_1_1_02_0_n_n none (extractStridedSlice S4096x256x17 ![0, 0, 1] X slices_S4096x256x21_S4096x256x17_0_0_1) (shapeCast _ (extractStridedSlice S256x256x1 ![0, 0, 1] W slices_S256x256x5_S256x256x1_0_0_1) shapeCasts_S256x256x1_S256x256)))
    (Host.dotGeneral dot_S4096x256x17_S256x256_S4096x17x256_1_1_02_0_n_n none (extractStridedSlice S4096x256x17 ![0, 0, 2] X slices_S4096x256x21_S4096x256x17_0_0_2) (shapeCast _ (extractStridedSlice S256x256x1 ![0, 0, 2] W slices_S256x256x5_S256x256x1_0_0_2) shapeCasts_S256x256x1_S256x256)))
    (Host.dotGeneral dot_S4096x256x17_S256x256_S4096x17x256_1_1_02_0_n_n none (extractStridedSlice S4096x256x17 ![0, 0, 3] X slices_S4096x256x21_S4096x256x17_0_0_3) (shapeCast _ (extractStridedSlice S256x256x1 ![0, 0, 3] W slices_S256x256x5_S256x256x1_0_0_3) shapeCasts_S256x256x1_S256x256)))
    (Host.dotGeneral dot_S4096x256x17_S256x256_S4096x17x256_1_1_02_0_n_n none (extractStridedSlice S4096x256x17 ![0, 0, 4] X slices_S4096x256x21_S4096x256x17_0_0_4) (shapeCast _ (extractStridedSlice S256x256x1 ![0, 0, 4] W slices_S256x256x5_S256x256x1_0_0_4) shapeCasts_S256x256x1_S256x256))

/-- Bias, the positive part, and the largest value over the 17 offsets. -/
def pool (C : FVec Ideal S4096x17x256 .f32) (b : FVec Ideal S256 .f32) : FVec Ideal S4096x256 .f32 :=
  Host.reduce FloatOps.maximumf (maximumf (addf C (broadcastInDim S4096x17x256 ![0, 1, 2] bcast_S1x1x256_S4096x17x256_0_1_2 (broadcastInDim S1x1x256 ![2] bcast_S256_S1x1x256_2 b)))
    (broadcastInDim S4096x17x256 ![] bcast_S_S4096x17x256 (constant S_ .f32 0x00000000#32))) (constant S_ .f32 0xFF800000#32) reducesTo_S4096x17x256_S4096x256_d1 h_S_

/-- The gate: the logistic function of an affine map. -/
def gate (X : FVec Ideal S4096x256 .f32) (Wg : FVec Ideal S256x256 .f32) (bg : FVec Ideal S256 .f32) : FVec Ideal S4096x256 .f32 :=
  Host.divf (broadcastInDim S4096x256 ![] bcast_S_S4096x256 (constant S_ .f32 0x3F800000#32)) (addf (broadcastInDim S4096x256 ![] bcast_S_S4096x256 (constant S_ .f32 0x3F800000#32)) (Host.exp (Host.negf (addf (Host.dotGeneral dot_S4096x256_S256x256_S4096x256_1_0_0_1_n_n none X (transpose S256x256 [1, 0] Wg transposes_S256x256_S256x256_1_0)) (broadcastInDim S4096x256 ![0, 1] bcast_S1x256_S4096x256_0_1 (broadcastInDim S1x256 ![1] bcast_S256_S1x256_1 bg))))))

/-- The highway layer: gate times the projection's positive part, plus the rest of the gate times the input. -/
def highway (X : FVec Ideal S4096x256 .f32) (Wp : FVec Ideal S256x256 .f32) (bp : FVec Ideal S256 .f32) (Wg : FVec Ideal S256x256 .f32) (bg : FVec Ideal S256 .f32) :
    FVec Ideal S4096x256 .f32 :=
  addf (mulf (gate X Wg bg) (maximumf (addf (Host.dotGeneral dot_S4096x256_S256x256_S4096x256_1_0_0_1_n_n none X (transpose S256x256 [1, 0] Wp transposes_S256x256_S256x256_1_0)) (broadcastInDim S4096x256 ![0, 1] bcast_S1x256_S4096x256_0_1 (broadcastInDim S1x256 ![1] bcast_S256_S1x256_1 bp))) (broadcastInDim S4096x256 ![] bcast_S_S4096x256 (constant S_ .f32 0x00000000#32))))
    (mulf (subf (broadcastInDim S4096x256 ![] bcast_S_S4096x256 (constant S_ .f32 0x3F800000#32)) (gate X Wg bg)) X)

/-- The reference's result over its arguments. -/
def result (I : IVec S64x64x21 32) (T : FVec Ideal S96x256 .f32) (W : FVec Ideal S256x256x5 .f32) (b : FVec Ideal S256 .f32)
    (Wp : FVec Ideal S256x256 .f32) (bp : FVec Ideal S256 .f32) (Wg : FVec Ideal S256x256 .f32) (bg : FVec Ideal S256 .f32) : FVec Ideal S4096x256 .f32 :=
  highway (pool (conv (words I T) W) b) Wp bp Wg bg

/-- The term the reference's run names is `result` of the arguments. -/
theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  rfl

/-! ## The stages at an index -/

/-- The take's gather at an index: the table's row at the id, read signed and kept in the table. -/
theorem gather_apply (T : FVec Ideal S96x256 .f32) (J : IVec S64x64x21x1 32) (a b : Fin 64) (p : Fin 21) (d : Fin 256) :
    Host.gather gather_S96x256_S64x64x21x1_S64x64x21x256_3_0_n_n_0_3_1256 T J (ix4 a b p d)
      = T (ix2 ⟨min (J (ix4 a b p 0)).toInt.toNat 95, by omega⟩ d) := by
  refine congrArg T (funext fun q => Fin.ext ?_)
  match q with
  | ⟨0, _⟩ =>
    show min (J _).toInt.toNat 95 + 0 + 0 = min (J (ix4 a b p 0)).toInt.toNat 95
    rw [Nat.add_zero]
    refine congrArg (fun z => min (J z).toInt.toNat 95) (funext fun r => Fin.ext ?_)
    match r with
    | ⟨0, _⟩ => rfl
    | ⟨1, _⟩ => rfl
    | ⟨2, _⟩ => rfl
    | ⟨3, _⟩ => rfl
  | ⟨1, _⟩ =>
    show 0 + 0 + d.val = d.val
    omega

/-- A number below 96 read signed is itself. -/
theorem toInt_of_lt (x : BitVec 32) (h : x.toNat < 96) : x.toInt = (x.toNat : ℤ) := by
  rw [BitVec.toInt_eq_toNat_cond, if_pos (by omega)]

/-- A signed comparison with a constant, from the values. -/
theorem slt_zero (x : BitVec 32) (h : x.toNat < 96) : x.slt 0#32 = false := by
  have := toInt_of_lt x h
  simp [BitVec.slt, this]

/-- An id in range is its own wrapped id. -/
theorem idCol_apply (I : IVec S64x64x21 32) (a b : Fin 64) (p : Fin 21) (h : (I (ix3 a b p)).toNat < 96) : idCol I (ix4 a b p 0) = I (ix3 a b p) := by
  pointwise [idCol, wrapIds]
  simp [IntOp.cmpi, slt_zero _ h, Scalar.select]

/-- An id in range passes the take's range check. -/
theorem inTable_apply (I : IVec S64x64x21 32) (a b : Fin 64) (p : Fin 21) (h : (I (ix3 a b p)).toNat < 96) : inTable I (ix3 a b p) = 1#1 := by
  pointwise [inTable]
  have h0 := idCol_apply I a b p h
  have h1 := toInt_of_lt _ h
  rw [Finset.univ_unique, Finset.fold_singleton]
  show IntOp.andi (IntOp.andi (IntOp.cmpi .sge (idCol I (ix4 a b p 0)) 0#32) (IntOp.cmpi .sle (idCol I (ix4 a b p 0)) 95#32)) 1#1 = 1#1
  rw [h0]
  have e1 : (0#32 : BitVec 32).sle (I (ix3 a b p)) = true := by simp [BitVec.sle, h1]
  have e2 : (I (ix3 a b p)).sle 95#32 = true := by
    simp only [BitVec.sle, h1, decide_eq_true_eq]
    show ((I (ix3 a b p)).toNat : ℤ) ≤ 95
    omega
  simp [IntOp.cmpi, IntOp.andi, e1, e2]

/-- The row the take reads for an id in range. -/
theorem gather_idCol (I : IVec S64x64x21 32) (T : FVec Ideal S96x256 .f32) (a b : Fin 64) (p : Fin 21) (h : (I (ix3 a b p)).toNat < 96) (d : Fin 256) :
    Host.gather gather_S96x256_S64x64x21x1_S64x64x21x256_3_0_n_n_0_3_1256 T (idCol I) (ix4 a b p d) = T (ix2 ⟨min (I (ix3 a b p)).toNat 95, by omega⟩ d) := by
  rw [gather_apply]
  refine congrArg (fun z => T (ix2 z d)) (Fin.ext ?_)
  show min (idCol I (ix4 a b p 0)).toInt.toNat 95 = min (I (ix3 a b p)).toNat 95
  rw [idCol_apply I a b p h, toInt_of_lt _ h, Int.toNat_natCast]

/-- The word, as a row of 5376 numbers, read back as 256 channels of 21 positions. -/
theorem words_apply (I : IVec S64x64x21 32) (T : FVec Ideal S96x256 .f32) (hI : ∀ a b p, (I (ix3 a b p)).toNat < 96) (n : Fin 4096) (o : Fin 256) (p : Fin 21) :
    words I T (ix3 n o p)
      = Sums.word (fun a d => T (ix2 a d)) (fun q => (I (ix3 ⟨n.val / 64, by omega⟩ ⟨n.val % 64, by omega⟩ q)).toNat) (o.val * 21 + p.val) := by
  pointwise [words, embeds]
  rw [inTable_apply I _ _ _ (hI _ _ _), gather_idCol I T _ _ _ (hI _ _ _)]
  have e1 : (n.val * 5376 + o.val * 21 + p.val) / 256 % 21 = (o.val * 21 + p.val) / 256 := by omega
  have e2 : (n.val * 5376 + o.val * 21 + p.val) % 256 = (o.val * 21 + p.val) % 256 := by omega
  rw [Sums.word, dif_pos (by omega)]
  simp only [e1, e2]
  rfl

/-- The convolution of the words at an index. -/
theorem conv_apply (I : IVec S64x64x21 32) (T : FVec Ideal S96x256 .f32) (hI : ∀ a b p, (I (ix3 a b p)).toNat < 96) (W : FVec Ideal S256x256x5 .f32)
    (n : Fin 4096) (t : Fin 17) (o : Fin 256) :
    conv (words I T) W (ix3 n t o)
      = Sums.convAt (Sums.word (fun a d => T (ix2 a d)) (fun q => (I (ix3 ⟨n.val / 64, by omega⟩ ⟨n.val % 64, by omega⟩ q)).toNat))
          (Sums.tap fun ch k => W (ix3 o ch k)) t.val := by
  pointwise [conv]
  simp only [words_apply I T hI]
  rw [Sums.convAt]
  have e : ∀ (k : ℕ) (hk : k < 5), (∑ ch ∈ Finset.range 256, Sums.word (fun a d => T (ix2 a d)) (fun q => (I (ix3 ⟨n.val / 64, by omega⟩ ⟨n.val % 64, by omega⟩ q)).toNat) (ch * 21 + (t.val + k))
        * Sums.tap (fun ch k => W (ix3 o ch k)) ch k)
      = ∑ x : Fin 256, Sums.word (fun a d => T (ix2 a d)) (fun q => (I (ix3 ⟨n.val / 64, by omega⟩ ⟨n.val % 64, by omega⟩ q)).toNat) (x.val * 21 + (t.val + k)) * W (ix3 o x ⟨k, hk⟩) := by
    intro k hk
    rw [Finset.sum_range]
    refine Finset.sum_congr rfl fun x _ => ?_
    rw [Sums.tap, dif_pos ⟨x.isLt, hk⟩]
  simp only [Finset.sum_range_succ _ 4, Finset.sum_range_succ _ 3, Finset.sum_range_succ _ 2, Finset.sum_range_succ _ 1, Finset.sum_range_one]
  rw [e 0 (by omega), e 1 (by omega), e 2 (by omega), e 3 (by omega), e 4 (by omega)]
  simp only [Nat.add_zero, Nat.zero_add, Nat.add_comm t.val]
  rfl

/-- The largest of the positive parts over the 17 offsets. -/
theorem pool_apply (X : FVec Ideal S4096x17x256 .f32) (b : FVec Ideal S256 .f32) (n : Fin 4096) (o : Fin 256) :
    pool X b (ix2 n o) = (Finset.univ : Finset (Fin 17)).fold max ⊥ fun x => max (X (ix3 n x o) + b (ix1 o)) 0 := by
  pointwise [pool]
  rw [show Ideal.ofBits .f32 0xFF800000#32 = (⊥ : EReal) by simp [Ideal.ofBits, Ideal.ieee]]

/-- The highway layer at an index. -/
theorem highway_apply (X : FVec Ideal S4096x256 .f32) (Wp : FVec Ideal S256x256 .f32) (bp : FVec Ideal S256 .f32) (Wg : FVec Ideal S256x256 .f32) (bg : FVec Ideal S256 .f32)
    (n : Fin 4096) (o : Fin 256) : highway X Wp bp Wg bg (ix2 n o)
      = Sums.highwayAt (fun d => X (ix2 n d)) (fun d => Wp (ix2 o d)) (bp (ix1 o)) (fun d => Wg (ix2 o d)) (bg (ix1 o)) (X (ix2 n o)) := by
  pointwise [highway, gate]
  rfl

/-- THE REFERENCE'S RESULT AT AN INDEX, for ids in the table. -/
theorem result_apply (I : IVec S64x64x21 32) (T : FVec Ideal S96x256 .f32) (W : FVec Ideal S256x256x5 .f32) (b : FVec Ideal S256 .f32)
    (Wp : FVec Ideal S256x256 .f32) (bp : FVec Ideal S256 .f32) (Wg : FVec Ideal S256x256 .f32) (bg : FVec Ideal S256 .f32)
    (hI : ∀ a b p, (I (ix3 a b p)).toNat < 96) (n : Fin 4096) (o : Fin 256) :
    result I T W b Wp bp Wg bg (ix2 n o)
      = Sums.highwayAt (fun d => Sums.pooled (Sums.word (fun a d => T (ix2 a d)) (fun q => (I (ix3 ⟨n.val / 64, by omega⟩ ⟨n.val % 64, by omega⟩ q)).toNat))
            (Sums.tap fun ch k => W (ix3 d ch k)) (b (ix1 d)))
          (fun d => Wp (ix2 o d)) (bp (ix1 o)) (fun d => Wg (ix2 o d)) (bg (ix1 o))
          (Sums.pooled (Sums.word (fun a d => T (ix2 a d)) (fun q => (I (ix3 ⟨n.val / 64, by omega⟩ ⟨n.val % 64, by omega⟩ q)).toNat))
            (Sums.tap fun ch k => W (ix3 o ch k)) (b (ix1 o))) := by
  have h : ∀ d : Fin 256, pool (conv (words I T) W) b (ix2 n d)
      = Sums.pooled (Sums.word (fun a d => T (ix2 a d)) (fun q => (I (ix3 ⟨n.val / 64, by omega⟩ ⟨n.val % 64, by omega⟩ q)).toNat))
            (Sums.tap fun ch k => W (ix3 d ch k)) (b (ix1 d)) := by
    intro d
    rw [pool_apply, Sums.pooled, Sums.maxTo_eq_fold]
    simp only [conv_apply I T hI]
  rw [result, highway_apply]
  simp only [h]

end Cert.ReferenceIdeal.Hand
-- ==== Proof.Final.lean ====
module

public import proofs.«01_k».proof.Proof.Contents
public import proofs.«01_k».proof.Proof.CaseB
public import proofs.«01_k».proof.Proof.Windows
public import proofs.«01_k».proof.Proof.Reference

@[expose] public section

set_option maxRecDepth 16384

noncomputable section

namespace Cert.KernelIdeal.Hand

open Cert.KernelIdeal Cert.KernelIdeal.Gen Idealize.ShloMosaic Idealize.ShloMosaic.TcCoe Idealize.SL.Sem

/-- An id below 96 cut to eight bits and widened again is the id. -/
theorem narrow_id (x : BitVec 32) (hx : x.toNat < 96) : (BitVec.setWidth 8 x).signExtend 32 = x := by
  have e := (by decide +kernel : ∀ k : Fin 96, (BitVec.setWidth 8 (BitVec.ofNat 32 k.val)).signExtend 32 = BitVec.ofNat 32 k.val) ⟨x.toNat, hx⟩
  simpa using e

/-- The one-hot test of a narrowed id against a column number compares the two numbers. -/
theorem id_test (x : BitVec 32) (hx : x.toNat < 96) (l : ℕ) (hl : l < 128) :
    (BitVec.setWidth 8 x).signExtend 32 = BitVec.ofNat 32 l ↔ x.toNat = l := by
  rw [narrow_id x hx, ← BitVec.toNat_inj, BitVec.toNat_ofNat, Nat.mod_eq_of_lt (by omega)]

variable (m : (ℓ : Loc nD τ sig) → Buf (Elt Ideal) ℓ) (c : Dev nD)

/-- The first point leaves in `U` the products of the table's rows and the shifted weight rows, at the rows ids name. -/
theorem u_first (t : Fin cfg0.N) (h : t.val % 8 = 0) (y : S17x2688x256.Idx) (hy : (y 1).val % 128 < 96) :
    (outsAt0 m c t.val t.isLt).2.2 y = uFun (hostT (m ((c.tc : Thread nD τ).loc main_arg1))) (hostW (m ((c.tc : Thread nD τ).loc main_arg2))) y := by
  rw [outsAt0_A m c t h (by omega) (by omega), ← blk_table m c t, ← blk_weights m c t]
  dsimp only
  rw [sout_A_1 (hy := hy)]

/-- Every other point leaves `U` as it was. -/
theorem u_kept (t : Fin cfg0.N) (h : ¬t.val % 8 = 0) :
    (outsAt0 m c t.val t.isLt).2.2 = (outsAt0 m c (t.val - 1) (Nat.lt_of_le_of_lt (Nat.sub_le _ _) t.isLt)).2.2 := by
  rcases Nat.mod_two_eq_zero_or_one t.val with h1 | h1
  · rw [outsAt0_C m c t h h1 (by omega)]
    dsimp only [sout0_C_1]
  · rw [outsAt0_B m c t h (by omega) h1]
    dsimp only [sout0_B_1]

/-- `U` after every point holds those products. -/
theorem u_at (n : ℕ) : ∀ (t : Fin cfg0.N), t.val = n → ∀ (y : S17x2688x256.Idx) (hy : (y 1).val % 128 < 96),
    (outsAt0 m c t.val t.isLt).2.2 y = uFun (hostT (m ((c.tc : Thread nD τ).loc main_arg1))) (hostW (m ((c.tc : Thread nD τ).loc main_arg2))) y := by
  induction n with
  | zero => exact fun t ht y hy => u_first m c t (by omega) y hy
  | succ n ih =>
    intro t ht y hy
    have hN := lt_of_lt_of_eq t.isLt (show cfg0.N = 8 from N_0)
    rw [u_kept m c t (by omega)]
    exact ih ⟨t.val - 1, Nat.lt_of_le_of_lt (Nat.sub_le _ _) t.isLt⟩ (by show t.val - 1 = n; omega) y hy

/-- The one-hot rows after an even point are those of the point's ids. -/
theorem oh_at (t : Fin cfg0.N) (ht : t.val % 2 = 0) : (outsAt0 m c t.val t.isLt).2.1 = ohFun (iblk m c 0 t) := by
  have h2 : ¬t.val % 2 = 1 := by omega
  by_cases h : t.val % 8 = 0
  · rw [outsAt0_A m c t h ht h2]
    dsimp only
    rw [sout_A_0]
  · rw [outsAt0_C m c t h ht h2]
    dsimp only
    rw [sout_C_0]

/-- One row of the one-hot array times one offset's slab of `U` is the convolution of the row's word at the offset. -/
theorem row_conv (I : IVec S64x64x21 32) (hI : ∀ a b p, (I (ix3 a b p)).toNat < 96) (T : FVec Ideal S96x256 .f32) (W : FVec Ideal S256x256x5 .f32)
    (x0 : Vec Ideal S1x21x1024x1 .i8) (b : ℕ) (hb : b < 4) (hx0 : ∀ p n, x0 (ix4 0 p n 0) = hostIds I (ix4 ⟨b, hb⟩ p n 0))
    (xs0 : Vec Ideal S1024x2688 .bf16) (h0 : xs0 = ohFun x0) (xs1 : Vec Ideal S17x2688x256 .bf16)
    (h1 : ∀ y : S17x2688x256.Idx, (y 1).val % 128 < 96 → xs1 y = uFun (hostT T) (hostW W) y)
    (n : Fin 1024) (o : Fin 256) (t : ℕ) (ht : t < 17) :
    ∑ r : Fin 2688, xs0 (ix2 n r) * xs1 (ix3 ⟨t, ht⟩ r o)
      = Sums.convAt (Sums.word (fun a d => T (ix2 a d)) fun q => (I (ix3 ⟨(b * 1024 + n.val) / 64, by omega⟩ ⟨(b * 1024 + n.val) % 64, by omega⟩ q)).toNat)
          (Sums.tap fun ch k => W (ix3 o ch k)) t := by
  rw [← Sums.rows_sum _ _ _ t ht]
  have hid := fun q => hI ⟨(b * 1024 + n.val) / 64, by omega⟩ ⟨(b * 1024 + n.val) % 64, by omega⟩ q
  have ea : (⟨b * 16 + n.val / 64, by omega⟩ : Fin 64) = ⟨(b * 1024 + n.val) / 64, by omega⟩ := Fin.ext (by show b * 16 + n.val / 64 = (b * 1024 + n.val) / 64; omega)
  have eb : (⟨n.val % 64, by omega⟩ : Fin 64) = ⟨(b * 1024 + n.val) % 64, by omega⟩ := Fin.ext (by show n.val % 64 = (b * 1024 + n.val) % 64; omega)
  refine (Sums.onehot_sum (fun r => xs1 (ix3 ⟨t, ht⟩ r o)) (fun r => xs0 (ix2 n r))
    (fun q => (I (ix3 ⟨(b * 1024 + n.val) / 64, by omega⟩ ⟨(b * 1024 + n.val) % 64, by omega⟩ q)).toNat) (fun q => lt_trans (hid q) (by decide)) (fun r => ?_)).trans ?_
  · show xs0 (ix2 n r) = _
    rw [h0]
    show (if (x0 (ix4 0 ⟨r.val / 128, _⟩ n 0)).signExtend 32 = BitVec.ofNat 32 (r.val % 128) then (1 : EReal) else 0) = _
    rw [hx0, hostIds_apply]
    refine if_congr ?_ rfl rfl
    show (BitVec.setWidth 8 (I (ix3 ⟨b * 16 + n.val / 64, _⟩ ⟨n.val % 64, _⟩ ⟨r.val / 128, _⟩))).signExtend 32 = _ ↔ _
    rw [id_test _ (hI _ _ _) _ (by omega), ea, eb]
  · refine Finset.sum_congr rfl fun p _ => ?_
    have hp := hid p
    have e1 : (p.val * 128 + (I (ix3 ⟨(b * 1024 + n.val) / 64, by omega⟩ ⟨(b * 1024 + n.val) % 64, by omega⟩ p)).toNat) % 128
        = (I (ix3 ⟨(b * 1024 + n.val) / 64, by omega⟩ ⟨(b * 1024 + n.val) % 64, by omega⟩ p)).toNat := by omega
    have e2 : (p.val * 128 + (I (ix3 ⟨(b * 1024 + n.val) / 64, by omega⟩ ⟨(b * 1024 + n.val) % 64, by omega⟩ p)).toNat) / 128 = p.val := by omega
    refine (h1 _ (lt_of_eq_of_lt e1 hp)).trans ?_
    refine Finset.sum_congr rfl fun d _ => congrArg₂ (· * ·) ?_ ?_
    · rw [hostT_apply]
      exact congrArg (fun a => T (ix2 a d)) (Fin.ext (congrArg (min · 95) e1))
    · refine (hostW_apply _ _ _).trans (congrArg _ ?_)
      show (p.val * 128 + _) / 128 * 256 + 16 - t + d.val = _
      rw [e2]

/-- The body's last stages over the one-hot rows of a block and `U` are the reference's rows of that block. -/
theorem block_rows (I : IVec S64x64x21 32) (hI : ∀ a b p, (I (ix3 a b p)).toNat < 96) (T : FVec Ideal S96x256 .f32) (W : FVec Ideal S256x256x5 .f32)
    (cb : FVec Ideal S256 .f32) (wp : FVec Ideal S256x256 .f32) (bp : FVec Ideal S256 .f32) (wg : FVec Ideal S256x256 .f32) (bg : FVec Ideal S256 .f32)
    (x0 : Vec Ideal S1x21x1024x1 .i8) (b : ℕ) (hb : b < 4) (hx0 : ∀ p n, x0 (ix4 0 p n 0) = hostIds I (ix4 ⟨b, hb⟩ p n 0))
    (xs0 : Vec Ideal S1024x2688 .bf16) (h0 : xs0 = ohFun x0) (xs1 : Vec Ideal S17x2688x256 .bf16)
    (h1 : ∀ y : S17x2688x256.Idx, (y 1).val % 128 < 96 → xs1 y = uFun (hostT T) (hostW W) y) (n : Fin 1024) (o : Fin 256) :
    highwayRows (largest xs0 xs1 (hostB cb) 16 (by omega)) (hostL wp) (hostB bp) (hostL wg) (hostB bg) (ix2 n o)
      = Cert.ReferenceIdeal.Hand.result I T W cb wp bp wg bg (ix2 ⟨b * 1024 + n.val, by omega⟩ o) := by
  have key : ∀ d : Fin 256, largest xs0 xs1 (hostB cb) 16 (by omega) (ix2 n d)
      = Sums.pooled (Sums.word (fun a d => T (ix2 a d)) fun q => (I (ix3 ⟨(b * 1024 + n.val) / 64, by omega⟩ ⟨(b * 1024 + n.val) % 64, by omega⟩ q)).toNat)
          (Sums.tap fun ch k => W (ix3 d ch k)) (cb (ix1 d)) := by
    intro d
    refine largest_apply xs0 xs1 (hostB cb) _ n d (fun t ht => ?_) 16 (by omega)
    rw [row_conv I hI T W x0 b hb hx0 xs0 h0 xs1 h1 n d t ht, hostB_apply]
  rw [Cert.ReferenceIdeal.Hand.result_apply _ _ _ _ _ _ _ _ hI, highwayRows_apply, funext key, key o, hostB_apply, hostB_apply,
    show (fun d => hostL wp (ix2 d o)) = fun d => wp (ix2 o d) from funext fun d => hostL_apply wp d o,
    show (fun d => hostL wg (ix2 d o)) = fun d => wg (ix2 o d) from funext fun d => hostL_apply wg d o]

/-- What an odd point leaves in the output block is the reference's rows of that block. -/
theorem out_at (hI : ∀ a b p, ((m ((c.tc : Thread nD τ).loc main_arg0) : IVec S64x64x21 32) (ix3 a b p)).toNat < 96)
    (t : Fin cfg0.N) (ht : t.val % 2 = 1) (n : Fin 1024) (o : Fin 256) :
    (outsAt0 m c t.val t.isLt).1 (ix2 n o)
      = Cert.ReferenceIdeal.Hand.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7))
          (ix2 ⟨t.val / 2 * 1024 + n.val, by have h := lt_of_lt_of_eq t.isLt (show cfg0.N = 8 from N_0); omega⟩ o) := by
  have hN := lt_of_lt_of_eq t.isLt (show cfg0.N = 8 from N_0)
  have hs : t.val - 1 < cfg0.N := Nat.lt_of_le_of_lt (Nat.sub_le _ _) t.isLt
  rw [outsAt0_B m c t (by omega) (by omega) ht]
  dsimp only
  rw [out_B, blk_cb, blk_wp, blk_bp, blk_wg, blk_bg]
  exact block_rows _ hI _ _ _ _ _ _ _ (iblk m c 0 ⟨t.val - 1, hs⟩) (t.val / 2) (by omega)
    (fun p n => (blk_ids m c ⟨t.val - 1, hs⟩ p n).trans (congrArg (fun b => hostIds (m ((c.tc : Thread nD τ).loc main_arg0)) (ix4 b p n 0)) (Fin.ext (by show (t.val - 1) / 2 = t.val / 2; omega))))
    _ (oh_at m c ⟨t.val - 1, hs⟩ (by show (t.val - 1) % 2 = 0; omega)) _ (u_at m c _ ⟨t.val - 1, hs⟩ rfl) n o

/-- The result array after the run is the reference's formula of the argument arrays. -/
theorem result_array (hI : ∀ a b p, ((m ((c.tc : Thread nD τ).loc main_arg0) : IVec S64x64x21 32) (ix3 a b p)).toNat < 96) :
    (dats m 0 c).arrAt 8 cfg0.N
      = Cert.ReferenceIdeal.Hand.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) := by
  refine (dats m 0 c).arrAt_eq_of_covers 8 _ (by decide +kernel) fun t hf y => ?_
  have ht := (by decide +kernel : ∀ t : Fin grid0.N, (cfg0.win 8).flush t = true → t.val % 2 = 1) t hf
  have e := (by decide +kernel : ∀ t : Fin grid0.N, win0_8.index t = ![t.val / 2, 0]) t
  obtain ⟨n, o, rfl⟩ : ∃ (n : Fin 1024) (o : Fin 256), y = ix2 n o := ⟨y 0, y 1, by funext a; match a with | ⟨0, _⟩ => rfl | ⟨1, _⟩ => rfl⟩
  blk_simp
  rw [after0_8]
  refine (out_at m c hI t ht n o).trans (congrArg _ (funext fun q => Fin.ext ?_))
  match q with
  | ⟨0, _⟩ => show t.val / 2 * 1024 + n.val = win0_8.index t 0 * 1024 + 1 * n.val; rw [e]; simp
  | ⟨1, _⟩ => show o.val = win0_8.index t 1 * 256 + 1 * o.val; rw [e]; simp

end Cert.KernelIdeal.Hand
-- ==== Proof.Claims.lean ====
module

public import proofs.«01_k».proof.Defs
public import proofs.«01_k».proof.Proof.Final
public import proofs.«01_k».proof.Proof.Gen.Kernel.Frame
public import Idealize.ShloMosaic.Lib.Quiescent

@[expose] public section

set_option maxRecDepth 16384

noncomputable section

namespace Cert.Claims

open Idealize.ShloMosaic Idealize.ShloMosaic.TcCoe Idealize.SL.Sem

/-- The precondition's side condition on its operations. -/
instance preFacts : Cert.Pre_ids_in_range.Facts where
  bcast_S_S64x64x21 := by decide

/-- The precondition, read at one id: the id, as a number, is below 96. -/
theorem id_lt (I : IVec ⟨3, ![64, 64, 21]⟩ 32) (T : FVec Ideal ⟨2, ![96, 256]⟩ .f32) (W : FVec Ideal ⟨3, ![256, 256, 5]⟩ .f32) (b : FVec Ideal ⟨1, ![256]⟩ .f32)
    (wp : FVec Ideal ⟨2, ![256, 256]⟩ .f32) (bp : FVec Ideal ⟨1, ![256]⟩ .f32) (wg : FVec Ideal ⟨2, ![256, 256]⟩ .f32) (bg : FVec Ideal ⟨1, ![256]⟩ .f32)
    (h : Cert.Pre_ids_in_range.fn (F := Ideal) I T W b wp bp wg bg = fun _ => 1#1) (y : Shape.Idx ⟨3, ![64, 64, 21]⟩) : (I y).toNat < 96 := by
  have hy := congrFun h y
  change IntOp.andi (IntOp.cmpi .sge (I y) 0#32) (IntOp.cmpi .slt (I y) 96#32) = 1#1 at hy
  revert hy
  generalize I y = x
  simp only [IntOp.andi, IntOp.cmpi]
  intro hy
  by_cases h0 : (0#32).sle x = true
  · by_cases h1 : x.slt 96#32 = true
    · rw [BitVec.sle_eq_decide, decide_eq_true_eq] at h0
      rw [BitVec.slt_eq_decide, decide_eq_true_eq] at h1
      have e0 : (0#32).toInt = 0 := by decide
      have e1 : (96#32).toInt = 96 := by decide
      rw [e0] at h0
      rw [e1] at h1
      rw [BitVec.toInt_eq_toNat_cond] at h0 h1
      split_ifs at h0 h1 <;> omega
    · simp_all
  · simp_all

/-- The kernel terminates, leaves its arguments and returns every counter to zero. -/
theorem frame_kernel : Cert.quiescent_Kernel (hKernel := Cert.Kernel.Gen.facts) := fun m ρ _ => Cert.Kernel.Gen.frame m ρ

/-- The idealized kernel does too. -/
theorem frame_ideal : Cert.quiescent_KernelIdeal (hKernelIdeal := Cert.KernelIdeal.Gen.facts) := fun m ρ _ => Cert.KernelIdeal.Gen.frame m ρ

/-- … from a memory whose ids are in range in particular. -/
theorem frame_ideal_pre : Cert.quiescent_KernelIdeal_pre_ids_in_range (hKernelIdeal := Cert.KernelIdeal.Gen.facts) (hPre_ids_in_range := preFacts) :=
  fun m ρ _ => Cert.KernelIdeal.Gen.frame m ρ

/-- The idealized reference terminates, leaves its arguments and has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- … from a memory whose ids are in range in particular. -/
theorem frame_reference_pre : Cert.quiescent_ReferenceIdeal_pre_ids_in_range (hReferenceIdeal := Cert.ReferenceIdeal.Gen.facts) (hPre_ids_in_range := preFacts) :=
  fun m ρ _ => frame_reference m ρ trivial

/-- From ids in range, the idealized kernel's result array and the idealized reference's are the same. -/
theorem algebraic : Cert.algebraic_KernelIdeal_ReferenceIdeal_pre_ids_in_range (hKernelIdeal := Cert.KernelIdeal.Gen.facts)
    (hReferenceIdeal := Cert.ReferenceIdeal.Gen.facts) (hPre_ids_in_range := preFacts) := by
  intro m ρ m' ρ' hpre hag
  have hI := fun (c : Dev Cert.KernelIdeal.nD) (a b : Fin 64) (p : Fin 21) => id_lt _ _ _ _ _ _ _ _ (hpre c) (ix3 a b p)
  refine ⟨fun c => Cert.ReferenceIdeal.Value.res_out0 m' c,
    (θ_run Cert.KernelIdeal.defs _ _).mono (fun r h c => ⟨(h c).1.trans ?_, (h c).2⟩) (Cert.KernelIdeal.Value.run_blocks m ρ),
    Cert.ReferenceIdeal.Value.run (F := Ideal) m' ρ'⟩
  obtain ⟨e0, e1, e2, e3, e4, e5, e6, e7⟩ := hag c
  refine (Cert.KernelIdeal.Hand.result_array m c (hI c)).trans ?_
  rw [← e0, ← e1, ← e2, ← e3, ← e4, ← e5, ← e6, ← e7]
  exact (Cert.ReferenceIdeal.Hand.res_eq m' c).symm

end Cert.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The certificate's claims together: the three frames (the two programs of the value claim also under its precondition),
    that idealizing kept the kernel, and that on ids in range the idealized kernel computes the idealized reference. -/
theorem claim : Cert.Claim := ⟨Cert.Kernel.Gen.facts, Cert.KernelIdeal.Gen.facts, Cert.ReferenceIdeal.Gen.facts, Cert.Claims.preFacts,
  Cert.Claims.frame_kernel, Cert.Claims.frame_ideal, Cert.Claims.frame_ideal_pre, Cert.Claims.frame_reference, Cert.Claims.frame_reference_pre,
  trivial, Cert.Claims.algebraic⟩

end Cert.Proof

end
